-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v3_1)) (v3 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_v3_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x2304 : Shape := ⟨3, ![2, 1536, 2304]⟩
abbrev S2304x6400 : Shape := ⟨2, ![2304, 6400]⟩
abbrev S2x1536x6400 : Shape := ⟨3, ![2, 1536, 6400]⟩
abbrev S6400 : Shape := ⟨1, ![6400]⟩
abbrev S3072x2304 : Shape := ⟨2, ![3072, 2304]⟩
abbrev S3072x6400 : Shape := ⟨2, ![3072, 6400]⟩
abbrev S1x6400 : Shape := ⟨2, ![1, 6400]⟩
abbrev S2304x256 : Shape := ⟨2, ![2304, 256]⟩
abbrev S3072x256 : Shape := ⟨2, ![3072, 256]⟩
abbrev S1x256 : Shape := ⟨2, ![1, 256]⟩
abbrev S512x1280 : Shape := ⟨2, ![512, 1280]⟩
abbrev S2304x1280 : Shape := ⟨2, ![2304, 1280]⟩
abbrev S1x1280 : Shape := ⟨2, ![1, 1280]⟩
abbrev S512x2304 : Shape := ⟨2, ![512, 2304]⟩

abbrev nBuf : Space → Nat
  | .hbm => 13
  | .vmem => 22
  | .smem => 0
  | _ => 0

abbrev bufTy : (tb : Table) → Fin (tcTables nBuf tb) → BufTy
  | .hbm, ⟨0, _⟩ => ⟨S2x1536x2304, .bf16⟩
  | .hbm, ⟨1, _⟩ => ⟨S2304x6400, .f32⟩
  | .hbm, ⟨2, _⟩ => ⟨S2x1536x6400, .bf16⟩
  | .hbm, ⟨3, _⟩ => ⟨S6400, .f32⟩
  | .hbm, ⟨4, _⟩ => ⟨S3072x2304, .bf16⟩
  | .hbm, ⟨5, _⟩ => ⟨S3072x6400, .bf16⟩
  | .hbm, ⟨6, _⟩ => ⟨S1x6400, .f32⟩
  | .hbm, ⟨7, _⟩ => ⟨S3072x6400, .bf16⟩
  | .hbm, ⟨8, _⟩ => ⟨S2304x6400, .f32⟩
  | .hbm, ⟨9, _⟩ => ⟨S2304x6400, .fp8e4m3⟩
  | .hbm, ⟨10, _⟩ => ⟨S3072x2304, .bf16⟩
  | .hbm, ⟨11, _⟩ => ⟨S2x1536x6400, .bf16⟩
  | .hbm, ⟨12, _⟩ => ⟨S2x1536x2304, .bf16⟩
  | .local _ .vmem, ⟨0, _⟩ => ⟨S3072x2304, .bf16⟩
  | .local _ .vmem, ⟨1, _⟩ => ⟨S2304x256, .f32⟩
  | .local _ .vmem, ⟨2, _⟩ => ⟨S2304x256, .f32⟩
  | .local _ .vmem, ⟨3, _⟩ => ⟨S3072x256, .bf16⟩
  | .local _ .vmem, ⟨4, _⟩ => ⟨S3072x256, .bf16⟩
  | .local _ .vmem, ⟨5, _⟩ => ⟨S1x256, .f32⟩
  | .local _ .vmem, ⟨6, _⟩ => ⟨S1x256, .f32⟩
  | .local _ .vmem, ⟨7, _⟩ => ⟨S3072x256, .bf16⟩
  | .local _ .vmem, ⟨8, _⟩ => ⟨S3072x256, .bf16⟩
  | .local _ .vmem, ⟨9, _⟩ => ⟨S2304x256, .f32⟩
  | .local _ .vmem, ⟨10, _⟩ => ⟨S2304x256, .f32⟩
  | .local _ .vmem, ⟨11, _⟩ => ⟨S2304x256, .fp8e4m3⟩
  | .local _ .vmem, ⟨12, _⟩ => ⟨S2304x256, .fp8e4m3⟩
  | .local _ .vmem, ⟨13, _⟩ => ⟨S512x1280, .bf16⟩
  | .local _ .vmem, ⟨14, _⟩ => ⟨S512x1280, .bf16⟩
  | .local _ .vmem, ⟨15, _⟩ => ⟨S2304x1280, .fp8e4m3⟩
  | .local _ .vmem, ⟨16, _⟩ => ⟨S2304x1280, .fp8e4m3⟩
  | .local _ .vmem, ⟨17, _⟩ => ⟨S1x1280, .f32⟩
  | .local _ .vmem, ⟨18, _⟩ => ⟨S1x1280, .f32⟩
  | .local _ .vmem, ⟨19, _⟩ => ⟨S512x2304, .bf16⟩
  | .local _ .vmem, ⟨20, _⟩ => ⟨S512x2304, .bf16⟩
  | .local _ .vmem, ⟨21, _⟩ => ⟨S512x2304, .f32⟩
  | _, _ => ⟨S2x1536x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S3072x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2304x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3072x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3072x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2304x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2304x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![6, 5], ![false, false]⟩

def k1_cond2 (i : grid1.Coords) : BitVec 1 :=
  let arg1 : BitVec 32 := BitVec.ofNat 32 (i 1).val
  let c4_i32 : BitVec 32 := 4#32
  let v19 : BitVec 1 := Scalar.cmpi .eq arg1 c4_i32
  let v20 : BitVec 32 := Scalar.extui v19
  let c0_i32_10 : BitVec 32 := 0#32
  let v21 : BitVec 1 := Scalar.cmpi .ne v20 c0_i32_10
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1280 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2304x1280 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x2304 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S2x1536x2304 : Shape := ⟨3, ![2, 1536, 2304]⟩
abbrev S2304x6400 : Shape := ⟨2, ![2304, 6400]⟩
abbrev S2x1536x6400 : Shape := ⟨3, ![2, 1536, 6400]⟩
abbrev S6400 : Shape := ⟨1, ![6400]⟩
abbrev S1x6400 : Shape := ⟨2, ![1, 6400]⟩

abbrev nBuf : Space → Nat
  | .hbm => 8
  | .vmem => 8
  | .smem => 0
  | _ => 0

abbrev bufTy : (tb : Table) → Fin (tcTables nBuf tb) → BufTy
  | .hbm, ⟨0, _⟩ => ⟨S2x1536x2304, .bf16⟩
  | .hbm, ⟨1, _⟩ => ⟨S2304x6400, .f32⟩
  | .hbm, ⟨2, _⟩ => ⟨S2x1536x6400, .bf16⟩
  | .hbm, ⟨3, _⟩ => ⟨S6400, .f32⟩
  | .hbm, ⟨4, _⟩ => ⟨S2x1536x6400, .bf16⟩
  | .hbm, ⟨5, _⟩ => ⟨S2x1536x2304, .bf16⟩
  | .hbm, ⟨6, _⟩ => ⟨S2304x6400, .f32⟩
  | .hbm, ⟨7, _⟩ => ⟨S2304x6400, .fp8e4m3⟩
  | .local _ .vmem, ⟨0, _⟩ => ⟨S2x1536x2304, .bf16⟩
  | .local _ .vmem, ⟨1, _⟩ => ⟨S2304x6400, .f32⟩
  | .local _ .vmem, ⟨2, _⟩ => ⟨S2x1536x6400, .bf16⟩
  | .local _ .vmem, ⟨3, _⟩ => ⟨S6400, .f32⟩
  | .local _ .vmem, ⟨4, _⟩ => ⟨S2x1536x6400, .bf16⟩
  | .local _ .vmem, ⟨5, _⟩ => ⟨S2x1536x2304, .bf16⟩
  | .local _ .vmem, ⟨6, _⟩ => ⟨S2304x6400, .f32⟩
  | .local _ .vmem, ⟨7, _⟩ => ⟨S2304x6400, .fp8e4m3⟩
  | _, _ => ⟨S2x1536x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2x1536x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2304x6400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1536x6400 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6400 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1536x6400 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1536x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2304x6400 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2304x6400 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.Call0.lean ====
/-
  The first pallas_call of the kernel (`forward_and_dw`, 25 column blocks of 256), at any contents `V` of the buffers at
  its entry and for any interpretation of the floats: what its body leaves in each output block as a function of the
  input blocks, and the body's triple at every grid point.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: for any proof data whose array is the entry array and whose body leaves the block in place, the
    staging buffer holds the block of the point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: for any proof data whose array is the entry array and whose body leaves the block in place, the
    staging buffer holds the block of the point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: for any proof data whose array is the entry array and whose body leaves the block in place, the
    staging buffer holds the block of the point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3: for any proof data whose array is the entry array and whose body leaves the block in place, the
    staging buffer holds the block of the point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2304x256 := Rect.unit (s := S2304x256) ![0, 0] S2304x256.size inb_S2304x256_S2304x256_0_0
abbrev r0_1 : Rect S1x256 := Rect.unit (s := S1x256) ![0, 0] S1x256.size inb_S1x256_S1x256_0_0
abbrev r0_2 : Rect S3072x2304 := Rect.unit (s := S3072x2304) ![0, 0] S3072x2304.size inb_S3072x2304_S3072x2304_0_0
abbrev r0_3 : Rect S3072x256 := Rect.unit (s := S3072x256) ![0, 0] S3072x256.size inb_S3072x256_S3072x256_0_0

/-! ## What the body leaves in each output window's buffer -/

/-- Window 4's staging buffer after the body, from the input windows' blocks: its 1 store as pieces, LAST
    FIRST. -/
def out0_4 (x0 : Vec F S3072x2304 .bf16) (x1 : Vec F S2304x256 .f32) (x2 : Vec F S3072x256 .bf16) (x3 : Vec F S1x256 .f32) : Vec F S3072x256 .bf16 :=
  View.canon [⟨r0_3, k0_pay5 (View.ld x1 r0_0) (View.ld x3 r0_1) (View.ld x0 r0_2)⟩]

/-- Its stores tile the buffer (checked by evaluation), so they cover it. -/
theorem cover0_4 (p0 : Vec F S3072x256 .bf16) (y : S3072x256.Idx) :
    ∃ pc ∈ ([⟨r0_3, p0⟩] : List (View.Piece (Elt F) S3072x256 .bf16)), y ∈ pc.1.set :=
  View.cover_of_tiled [⟨r0_3, p0⟩] S3072x256.size (by rfl) y

/-- Window 5's staging buffer after the body, from the input windows' blocks: its 1 store as pieces, LAST
    FIRST. -/
def out0_5 (x0 : Vec F S3072x2304 .bf16) (x1 : Vec F S2304x256 .f32) (x2 : Vec F S3072x256 .bf16) (x3 : Vec F S1x256 .f32) : Vec F S2304x256 .f32 :=
  View.canon [⟨r0_0, k0_pay6 (View.ld x1 r0_0) (View.ld x3 r0_1) (View.ld x0 r0_2) (View.ld x2 r0_3)⟩]

/-- Its stores tile the buffer (checked by evaluation), so they cover it. -/
theorem cover0_5 (p0 : Vec F S2304x256 .f32) (y : S2304x256.Idx) :
    ∃ pc ∈ ([⟨r0_0, p0⟩] : List (View.Piece (Elt F) S2304x256 .f32)), y ∈ pc.1.set :=
  View.cover_of_tiled [⟨r0_0, p0⟩] S2304x256.size (by rfl) y

/-- Window 6's staging buffer after the body, from the input windows' blocks: its 1 store as pieces, LAST
    FIRST. -/
def out0_6 (x0 : Vec F S3072x2304 .bf16) (x1 : Vec F S2304x256 .f32) (x2 : Vec F S3072x256 .bf16) (x3 : Vec F S1x256 .f32) : Vec F S2304x256 .fp8e4m3 :=
  View.canon [⟨r0_0, k0_pay3 (View.ld x1 r0_0) (View.ld x3 r0_1)⟩]

/-- Its stores tile the buffer (checked by evaluation), so they cover it. -/
theorem cover0_6 (p0 : Vec F S2304x256 .fp8e4m3) (y : S2304x256.Idx) :
    ∃ pc ∈ ([⟨r0_0, p0⟩] : List (View.Piece (Elt F) S2304x256 .fp8e4m3)), y ∈ pc.1.set :=
  View.cover_of_tiled [⟨r0_0, p0⟩] S2304x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S3072x2304 .bf16) (harg1 : arg1.IsWhole) (arg2 : Memref sig .tc .vmem S2304x256 .f32) (harg2 : arg2.IsWhole) (arg3 : Memref sig .tc .vmem S3072x256 .bf16) (harg3 : arg3.IsWhole) (arg4 : Memref sig .tc .vmem S1x256 .f32) (harg4 : arg4.IsWhole) (arg5 : Memref sig .tc .vmem S3072x256 .bf16) (harg5 : arg5.IsWhole) (arg6 : Memref sig .tc .vmem S2304x256 .f32) (harg6 : arg6.IsWhole) (arg7 : Memref sig .tc .vmem S2304x256 .fp8e4m3) (harg7 : arg7.IsWhole)
    (x0 : Vec F S3072x2304 .bf16) (x1 : Vec F S2304x256 .f32) (x2 : Vec F S3072x256 .bf16) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_forward_and_dw i arg1 harg1 arg2 harg2 arg3 harg3 arg4 harg4 arg5 harg5 arg6 harg6 arg7 harg7) K := by
  simp only [cc0_forward_and_dw_eq_skeleton]; unfold cc0_forward_and_dw_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (`ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Calls

end
-- ==== Proof.Kernel.Call1.lean ====
/-
  The second pallas_call of the kernel (`input_gradient`, 6 row blocks by 5 steps over the contraction, point 5·row + step),
  at any contents `V` of the buffers at its entry and for any interpretation of the floats. The body adds one step's product
  into a scratch buffer that starts from zero at step 0 and is written out, rounded, at step 4. Here: the body's triple in
  each of its three cases, what the scratch holds after every point (`acc`), and the body's triple at every grid point.
-/
module

public import proofs.«01_k».proof.Proof.Kernel.Call0
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: for any proof data whose array is the entry array and whose body leaves the block in place, the
    staging buffer holds the block of the point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: for any proof data whose array is the entry array and whose body leaves the block in place, the
    staging buffer holds the block of the point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: for any proof data whose array is the entry array and whose body leaves the block in place, the
    staging buffer holds the block of the point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition: the step (grid coordinate 1) is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (fun t => by
    have ht : t.val < 30 := Nat.lt_of_lt_of_eq t.isLt N_1
    have e1 : (grid1.coords t 1).val = t.val / 1 % 5 := Pipeline.Grid.coords_val t 1 (by decide) rfl
    simp only [cond1_0, e1]
    word_cmp
   : ∀ t : Fin grid1.N, cond1_0 (grid1.coords t) ↔ t.val % 5 = 0)

/-- The second condition: the step is 4, the last. -/
abbrev cond1_1 (i : grid1.Coords) : Prop := k1_cond2 i = 1#1
theorem hcond1_1 : ∀ t : Fin cfg1.N, cond1_1 (grid1.coords t) ↔ t.val % 5 = 4 :=
  (fun t => by
    have ht : t.val < 30 := Nat.lt_of_lt_of_eq t.isLt N_1
    have e1 : (grid1.coords t 1).val = t.val / 1 % 5 := Pipeline.Grid.coords_val t 1 (by decide) rfl
    simp only [cond1_1, k1_cond2, e1]
    word_cmp
   : ∀ t : Fin grid1.N, cond1_1 (grid1.coords t) ↔ t.val % 5 = 4)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Before the last step the output window is idle, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step the output window is stored into. -/
theorem liveAt1_3 : ∀ t : Fin cfg1.N, cond1_1 (grid1.coords t) → cfg1.idle 3 (grid1.coords t) = false := by decide +kernel

/-! ## The body's triple in each case -/

/-- The scratch buffer, whole. -/
abbrev scM : Memref sig .tc .vmem S512x2304 .f32 := Memref.whole cc1_scratch0

set_option maxHeartbeats 1000000 in
/-- The body at step 0: the scratch, whatever it held, ends at the step's product added to zero; the output buffer is untouched. -/
theorem run1_A (c : Dev nD) (i : grid1.Coords) (arg2 : Memref sig .tc .vmem S512x1280 .bf16) (harg2 : arg2.IsWhole) (arg3 : Memref sig .tc .vmem S2304x1280 .fp8e4m3) (harg3 : arg3.IsWhole)
    (arg4 : Memref sig .tc .vmem S1x1280 .f32) (harg4 : arg4.IsWhole) (arg5 : Memref sig .tc .vmem S512x2304 .bf16) (harg5 : arg5.IsWhole) (arg6 : Memref sig .tc .vmem S512x2304 .f32) (harg6 : arg6.IsWhole)
    (hc0 : cond1_0 i) (hc1 : ¬cond1_1 i) (x0 : Vec F S512x1280 .bf16) (x1 : Vec F S2304x1280 .fp8e4m3) (x2 : Vec F S1x1280 .f32) (xi3 : Vec F S512x2304 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x1 x2 k1_pay1 x0)) -∗ K ⟨⟩))
      ⊢ wp frame (wpE (defs₀ (F := F)) Variants.none c none) E (cc1_input_gradient i arg2 harg2 arg3 harg3 arg4 harg4 arg5 harg5 arg6 harg6) K := by
  simp only [cc1_input_gradient_eq_skeleton]; unfold cc1_input_gradient_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_full]
  (try unfold run1_A.sl.v11); (try unfold run1_A.sl.HS_1)
  rw [View.readAt_full, View.readAt_full, View.readAt_full, View.readCov_full]

set_option maxHeartbeats 1000000 in
/-- The body at a middle step: the step's product is added to what the scratch held; the output buffer is untouched. -/
theorem run1_B (c : Dev nD) (i : grid1.Coords) (arg2 : Memref sig .tc .vmem S512x1280 .bf16) (harg2 : arg2.IsWhole) (arg3 : Memref sig .tc .vmem S2304x1280 .fp8e4m3) (harg3 : arg3.IsWhole)
    (arg4 : Memref sig .tc .vmem S1x1280 .f32) (harg4 : arg4.IsWhole) (arg5 : Memref sig .tc .vmem S512x2304 .bf16) (harg5 : arg5.IsWhole) (arg6 : Memref sig .tc .vmem S512x2304 .f32) (harg6 : arg6.IsWhole)
    (hc0 : ¬cond1_0 i) (hc1 : ¬cond1_1 i) (x0 : Vec F S512x1280 .bf16) (x1 : Vec F S2304x1280 .fp8e4m3) (x2 : Vec F S1x1280 .f32) (xs : Vec F S512x2304 .f32) (xi3 : Vec F S512x2304 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x1 x2 xs x0)) -∗ K ⟨⟩))
      ⊢ wp frame (wpE (defs₀ (F := F)) Variants.none c none) E (cc1_input_gradient i arg2 harg2 arg3 harg3 arg4 harg4 arg5 harg5 arg6 harg6) K := by
  simp only [cc1_input_gradient_eq_skeleton]; unfold cc1_input_gradient_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_full]
  rw [View.readAt_full, View.readAt_full, View.readAt_full, View.readAt_full]

set_option maxHeartbeats 1000000 in
/-- The body at the last step: the product is added to what the scratch held, and the sum, rounded, is stored whole into the output buffer. -/
theorem run1_C (c : Dev nD) (i : grid1.Coords) (arg2 : Memref sig .tc .vmem S512x1280 .bf16) (harg2 : arg2.IsWhole) (arg3 : Memref sig .tc .vmem S2304x1280 .fp8e4m3) (harg3 : arg3.IsWhole)
    (arg4 : Memref sig .tc .vmem S1x1280 .f32) (harg4 : arg4.IsWhole) (arg5 : Memref sig .tc .vmem S512x2304 .bf16) (harg5 : arg5.IsWhole) (arg6 : Memref sig .tc .vmem S512x2304 .f32) (harg6 : arg6.IsWhole)
    (hc0 : ¬cond1_0 i) (hc1 : cond1_1 i) (x0 : Vec F S512x1280 .bf16) (x1 : Vec F S2304x1280 .fp8e4m3) (x2 : Vec F S1x1280 .f32) (xs : Vec F S512x2304 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x1 x2 xs x0))
            ∗ owns (c : Thread nD τ) arg6 fullShare (k1_pay2 x1 x2 xs x0)) -∗ K ⟨⟩))
      ⊢ wp frame (wpE (defs₀ (F := F)) Variants.none c none) E (cc1_input_gradient i arg2 harg2 arg3 harg3 arg4 harg4 arg5 harg5 arg6 harg6) K := by
  simp only [cc1_input_gradient_eq_skeleton]; unfold cc1_input_gradient_skel
  unfold owns
  iintro ⟨⟨%f0, %hf0, H0⟩, ⟨%f1, %hf1, H1⟩, ⟨%f2, %hf2, H2⟩, ⟨%ds3, %f3, -, H3⟩, ⟨%fs, %hfs, HS⟩, Hk⟩
  subst hf0 hf1 hf2 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_full]
    (try unfold run1_C.sl.v22); (try unfold run1_C.sl.HS_1)
    rw [View.readCov_full, View.readAt_full, View.readAt_full, View.readAt_full, View.readAt_full]
  iexists _; isplitr
  swap; · iexact HS
  ipureintro
  (try unfold run1_C.sl.HS_1)
  rw [View.read_writes_full]
  rw [View.readAt_full, View.readAt_full, View.readAt_full, View.readAt_full]

/-! ## What the scratch holds after every point -/

/-- What the scratch holds after the body at position `n`: restarted at step 0, accumulated over the position before otherwise. -/
def acc (c : Dev nD) : (n : ℕ) → n < cfg1.N → Vec F S512x2304 .f32
  | 0, hn => k1_pay2 (iblk1 V c 1 ⟨0, hn⟩) (iblk1 V c 2 ⟨0, hn⟩) k1_pay1 (iblk1 V c 0 ⟨0, hn⟩)
  | n + 1, hn =>
    k1_pay2 (iblk1 V c 1 ⟨n + 1, hn⟩) (iblk1 V c 2 ⟨n + 1, hn⟩) (if (n + 1) % 5 = 0 then k1_pay1 else acc c n (Nat.lt_of_succ_lt hn)) (iblk1 V c 0 ⟨n + 1, hn⟩)

/-- At step 0 the sum restarts from zero. -/
theorem acc_first (c : Dev nD) (t : Fin cfg1.N) (h0 : t.val % 5 = 0) :
    acc V c t.val t.isLt = k1_pay2 (iblk1 V c 1 t) (iblk1 V c 2 t) k1_pay1 (iblk1 V c 0 t) := by
  obtain ⟨n, hn⟩ := t
  cases n with
  | zero => rfl
  | succ n => show k1_pay2 _ _ (if (n + 1) % 5 = 0 then k1_pay1 else acc V c n (Nat.lt_of_succ_lt hn)) _ = _; rw [if_pos h0]

/-- At every other step the product is added to what the point before left. -/
theorem acc_next (c : Dev nD) (t : Fin cfg1.N) (h0 : ¬t.val % 5 = 0) :
    acc V c t.val t.isLt = k1_pay2 (iblk1 V c 1 t) (iblk1 V c 2 t) (acc V c (t.val - 1) (Nat.lt_of_le_of_lt (Nat.sub_le _ _) t.isLt)) (iblk1 V c 0 t) := by
  obtain ⟨n, hn⟩ := t
  cases n with
  | zero => exact absurd (Nat.zero_mod _) h0
  | succ n => show k1_pay2 _ _ (if (n + 1) % 5 = 0 then k1_pay1 else acc V c n (Nat.lt_of_succ_lt hn)) _ = _; rw [if_neg h0]; rfl

/-- The staging buffers of the first call, at anything: this call does not touch them. -/
def oth (c : Dev nD) : sProp 𝕄 :=
  iprop((∃ f, (c : Thread nD τ).loc cc0_stg0_0 ↦{fullShare} f)
    ∗ (∃ f, (c : Thread nD τ).loc cc0_stg1_0 ↦{fullShare} f)
    ∗ (∃ f, (c : Thread nD τ).loc cc0_stg1_1 ↦{fullShare} f)
    ∗ (∃ f, (c : Thread nD τ).loc cc0_stg2_0 ↦{fullShare} f)
    ∗ (∃ f, (c : Thread nD τ).loc cc0_stg2_1 ↦{fullShare} f)
    ∗ (∃ f, (c : Thread nD τ).loc cc0_stg3_0 ↦{fullShare} f)
    ∗ (∃ f, (c : Thread nD τ).loc cc0_stg3_1 ↦{fullShare} f)
    ∗ (∃ f, (c : Thread nD τ).loc cc0_stg4_0 ↦{fullShare} f)
    ∗ (∃ f, (c : Thread nD τ).loc cc0_stg4_1 ↦{fullShare} f)
    ∗ (∃ f, (c : Thread nD τ).loc cc0_stg5_0 ↦{fullShare} f)
    ∗ (∃ f, (c : Thread nD τ).loc cc0_stg5_1 ↦{fullShare} f)
    ∗ (∃ f, (c : Thread nD τ).loc cc0_stg6_0 ↦{fullShare} f)
    ∗ (∃ f, (c : Thread nD τ).loc cc0_stg6_1 ↦{fullShare} f))

/-- The call is entered with the scratch at anything, the other buffers and the generator register. -/
theorem PhiA1_in (c : Dev nD) : Pipeline.ΦA spec1 c ⊢ iprop(iprop((∃ d, owns (c : Thread nD τ) scM fullShare d) ∗ oth (F := F) c) ∗ (∃ r, prngReg c r)) := by
  unfold Pipeline.ΦA oth; rw [scopedRest1_eq]; simp only [scM, owns_whole]
  iintro ⟨⟨H0, H1, H2, H3, H4, H5, H6, H7, H8, H9, H10, H11, H12, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

/-- And gives the same back. -/
theorem PhiA1_out (c : Dev nD) : iprop(iprop((∃ d, owns (c : Thread nD τ) scM fullShare d) ∗ oth (F := F) c) ∗ (∃ r, prngReg c r)) ⊢ Pipeline.ΦA spec1 c := by
  unfold Pipeline.ΦA oth; rw [scopedRest1_eq]; simp only [scM, owns_whole]
  iintro ⟨⟨HS, H0, H1, H2, H3, H4, H5, H6, H7, H8, H9, H10, H11, H12⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  iexact Hg

/-- The invariant before position `n`: before the first point the scratch at anything, afterwards at what the point before left. -/
def PhiS1 (c : Dev nD) : (n : ℕ) → n ≤ cfg1.N → sProp 𝕄
  | 0, _ => iprop(iprop((∃ d, owns (c : Thread nD τ) scM fullShare d) ∗ oth (F := F) c) ∗ (∃ r, prngReg c r))
  | n + 1, hn => iprop(iprop(owns (c : Thread nD τ) scM fullShare (acc V c n hn) ∗ oth (F := F) c) ∗ (∃ r, prngReg c r))

theorem PhiS1_zero (c : Dev nD) (n : ℕ) (h : n ≤ cfg1.N) (hz : n = 0) : PhiS1 V c n h = iprop(iprop((∃ d, owns (c : Thread nD τ) scM fullShare d) ∗ oth (F := F) c) ∗ (∃ r, prngReg c r)) := by
  subst hz; rfl

theorem PhiS1_succ (c : Dev nD) (n : ℕ) (hn : n < cfg1.N) :
    PhiS1 V c (n + 1) hn = iprop(iprop(owns (c : Thread nD τ) scM fullShare (acc V c n hn) ∗ oth (F := F) c) ∗ (∃ r, prngReg c r)) := rfl

theorem PhiS1_pos (c : Dev nD) (n : ℕ) (h : n ≤ cfg1.N) (hz : n ≠ 0) :
    PhiS1 V c n h = iprop(iprop(owns (c : Thread nD τ) scM fullShare (acc V c (n - 1) (by omega)) ∗ oth (F := F) c) ∗ (∃ r, prngReg c r)) := by
  cases n with
  | zero => exact absurd rfl hz
  | succ n => rfl

/-! ## The pipeline's proof data -/

/-- The arrays as the call finds them; each input's buffer keeps its block; the output's, where it is stored into, holds the
    rounded sum; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: by its step the point is in one of the three cases, whose triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 5 = 0
  · have h1 : ¬t.val % 5 = 4 := by omega
    have hc1 : ¬cond1_1 (grid1.coords t) := fun h => h1 ((hcond1_1 t).mp h)
    rw [Dat.leavesExact_idle (dat1 V c) 3 t (idleAt1_3 t hc1) (noFlush1_3 t hc1), acc_first V c t h0]
    by_cases hz : t.val = 0
    · rw [Phi1_castSucc V c t, PhiS1_zero V c _ _ hz]
      iintro ⟨⟨⟨HS, Hb⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      iexists _; iexact H3
    · rw [Phi1_castSucc V c t, PhiS1_pos V c _ _ hz]
      iintro ⟨⟨⟨HS, Hb⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [Phi1_castSucc V c t, PhiS1_pos V c _ _ hz]
    by_cases h1 : t.val % 5 = 4
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, acc_next V c t h0]
      iintro ⟨⟨⟨HS, Hb⟩, Hg⟩, Ho, ⟨%d0, H0⟩, ⟨%d1, H1⟩, ⟨%d2, H2⟩, ⟨%d3, H3⟩⟩
      iapply (run1_C c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1), acc_next V c t h0]
      iintro ⟨⟨⟨HS, Hb⟩, Hg⟩, Ho, ⟨%d0, H0⟩, ⟨%d1, H1⟩, ⟨%d2, H2⟩, ⟨%d3, H3⟩⟩
      iapply (run1_B c (grid1.coords t) _ _ _ _ _ _ _ _ _ _ hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body's triple at every point, in the form the pipeline's rule takes. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the call is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_in c

/-- After the last point the invariant gives the scratch back at some contents. -/
theorem hout1 (c : Dev nD) : (dat1 V c).Φ (Fin.last cfg1.N) ⊢ Pipeline.ΦA spec1 c := by
  have ht : (Fin.last cfg1.N).val ≠ 0 := by rw [Fin.val_last]; have : cfg1.N = 30 := N_1; omega
  rw [show (dat1 V c).Φ (Fin.last cfg1.N) = PhiS1 V c (Fin.last cfg1.N).val (Nat.le_of_lt_succ (Fin.last cfg1.N).isLt) from rfl, PhiS1_pos V c _ _ ht]
  iintro ⟨⟨HS, Hb⟩, Hg⟩
  iapply (PhiA1_out c)
  isplitr [Hg]
  · isplitl [HS]
    · iexists _; iexact HS
    iexact Hb
  iexact Hg

end Cert.Kernel.Calls

end
-- ==== Proof.Kernel.Run.lean ====
/-
  The whole run of @main at any interpretation of the floats: the reshapes of the arguments, the first pallas_call, the second,
  the reshapes of the results. From any memory with zero counters every execution terminates with each buffer at the contents
  `W4` computed below and every semaphore counter at zero (`run`); so the arguments end unchanged (`frame`).
-/
module

public import proofs.«01_k».proof.Proof.Gen.Kernel.Regions
public import proofs.«01_k».proof.Proof.Kernel.Call1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Calls

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3]

/-! ## The buffers' contents at each boundary of @main -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After the host operations `hostOps0`. -/
def W1 (c : Dev nD) : Valuation τ sig (Elt F) := StableHlo.after hostOps0 (W0 m ρ c)
/-- A reference those operations do not write keeps its contents. -/
theorem W1_of (c : Dev nD) (r : Ref sig .tc) (h : r ∉ hostOps0_W) : W1 m ρ c r = W0 m ρ c r :=
  StableHlo.after_of_writes_sub hostOps0 _ hostOps0_writes h
theorem argsHost0 : ∀ a ∈ argRefs, a ∉ hostOps0_W := by decide
theorem W1_args (c : Dev nD) : ∀ a ∈ argRefs, W1 m ρ c (Proc.devRef .tc a) = m ((c : Thread nD τ).loc a) :=
  fun a ha => (W1_of m ρ c a (argsHost0 a ha)).trans (W0_args m ρ c a ha)
/-- The same read at the TensorCore's references. -/
abbrev U1 : (c : Dev nD) → (b : Ref sig .tc) → Buf (Elt F) ((c : Thread nD τ).loc b) := fun c b => W1 m ρ c b

/-- After call 0: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of call 0's output arrays keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (U1 m ρ) c).arrAt_in w (h w rfl) _).trans (A_eq0 (U1 m ρ) c w))
  · exact W2_of_ne m ρ c r fun w e => hw ⟨w, e⟩
/-- No argument is an output array of call 0. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After call 1: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of call 1's output arrays keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (U2 m ρ) c).arrAt_in w (h w rfl) _).trans (A_eq1 (U2 m ρ) c w))
  · exact W3_of_ne m ρ c r fun w e => hw ⟨w, e⟩
/-- No argument is an output array of call 1. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the host operations `hostOps2`. -/
def W4 (c : Dev nD) : Valuation τ sig (Elt F) := StableHlo.after hostOps2 (W3 m ρ c)
/-- A reference those operations do not write keeps its contents. -/
theorem W4_of (c : Dev nD) (r : Ref sig .tc) (h : r ∉ hostOps2_W) : W4 m ρ c r = W3 m ρ c r :=
  StableHlo.after_of_writes_sub hostOps2 _ hostOps2_writes h
theorem argsHost2 : ∀ a ∈ argRefs, a ∉ hostOps2_W := by decide
theorem W4_args (c : Dev nD) : ∀ a ∈ argRefs, W4 m ρ c (Proc.devRef .tc a) = m ((c : Thread nD τ).loc a) :=
  fun a ha => (W4_of m ρ c a (argsHost2 a ha)).trans (W3_args m ρ c a ha)
/-- The same read at the TensorCore's references. -/
abbrev U4 : (c : Dev nD) → (b : Ref sig .tc) → Buf (Elt F) ((c : Thread nD τ).loc b) := fun c b => W4 m ρ c b

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W4`, the generator register at some state. -/
abbrev Tₙ (c : Dev nD) : sProp 𝕄 := iprop(StableHlo.held (c : Thread nD τ) (Pipeline.ucRefs τ sig) (W4 m ρ c) ∗ ∃ r, prngReg c r)

/-- The last segment's exit is the last thread state beside the core owing nothing. -/
theorem hlast (c : Dev nD) : iprop(StableHlo.held (c : Thread nD τ) (Pipeline.ucRefs τ sig) (W4 m ρ c) ∗ R (F := F) c)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- `iapply` of a library lemma stated over `pin pcs a p` unifies with the pinned configuration only when unification may
-- unfold plain definitions in a metavariable's type
set_option backward.isDefEq.respectTransparency.types false in
/-- Call 0 over the thread state: entered from every unscoped buffer at `W1`, left at `W2`. Its arrays are split out of
    the unscoped buffers and put back; the generator register goes into the invariant and out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Call 1 over the thread state: entered from every unscoped buffer at `W2`, left at `W3`. Its arrays are split out of
    the unscoped buffers and put back; the generator register goes into the invariant and out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) (A_eq1 (U2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U2 m ρ) c
    unfold Pipeline.ΦA at h
    rw [show (pdats m ρ 1 c).Φ 0 = (dat1 (U2 m ρ) c).Φ 0 from rfl]
    iintro ⟨Hp, -, Hr⟩
    iapply h
    isplitl [Hr]; · iexact Hr
    iexact Hp
  hout c := by
    have h := hout1 (U2 m ρ) c
    unfold Pipeline.ΦA at h
    rw [Pipeline.ownSems0_none, show (pdats m ρ 1 c).Φ (Fin.last _) = (dat1 (U2 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments: the reshapes, the two calls, the reshapes back. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every execution of @main terminates, with every unscoped buffer at `W4` and every
    semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W4_args m ρ c main_arg0 (by decide)),
       (h.1 c _ (mem_uc main_arg1 (by decide))).trans (W4_args m ρ c main_arg1 (by decide)),
       (h.1 c _ (mem_uc main_arg2 (by decide))).trans (W4_args m ρ c main_arg2 (by decide)),
       (h.1 c _ (mem_uc main_arg3 (by decide))).trans (W4_args m ρ c main_arg3 (by decide))⟩, h.2⟩) (run m ρ)

end Cert.Kernel.Calls

end
-- ==== Proof.KernelIdeal.Call0.lean ====
/-
  The first pallas_call of the kernel (`forward_and_dw`, 25 column blocks of 256), at any contents `V` of the buffers at
  its entry and for any interpretation of the floats: what its body leaves in each output block as a function of the
  input blocks, and the body's triple at every grid point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: for any proof data whose array is the entry array and whose body leaves the block in place, the
    staging buffer holds the block of the point, whether or not it was fetched there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1: for any proof data whose array is the entry array and whose body leaves the block in place, the
    staging buffer holds the block of the point, whether or not it was fetched there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2: for any proof data whose array is the entry array and whose body leaves the block in place, the
    staging buffer holds the block of the point, whether or not it was fetched there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3: for any proof data whose array is the entry array and whose body leaves the block in place, the
    staging buffer holds the block of the point, whether or not it was fetched there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S2304x256 := Rect.unit (s := S2304x256) ![0, 0] S2304x256.size inb_S2304x256_S2304x256_0_0
abbrev r0_1 : Rect S1x256 := Rect.unit (s := S1x256) ![0, 0] S1x256.size inb_S1x256_S1x256_0_0
abbrev r0_2 : Rect S3072x2304 := Rect.unit (s := S3072x2304) ![0, 0] S3072x2304.size inb_S3072x2304_S3072x2304_0_0
abbrev r0_3 : Rect S3072x256 := Rect.unit (s := S3072x256) ![0, 0] S3072x256.size inb_S3072x256_S3072x256_0_0

/-! ## What the body leaves in each output window's buffer -/

/-- Window 4's staging buffer after the body, from the input windows' blocks: its 1 store as pieces, LAST
    FIRST. -/
def out0_4 (x0 : Vec F S3072x2304 .bf16) (x1 : Vec F S2304x256 .f32) (x2 : Vec F S3072x256 .bf16) (x3 : Vec F S1x256 .f32) : Vec F S3072x256 .bf16 :=
  View.canon [⟨r0_3, k0_pay5 (View.ld x1 r0_0) (View.ld x3 r0_1) (View.ld x0 r0_2)⟩]

/-- Its stores tile the buffer (checked by evaluation), so they cover it. -/
theorem cover0_4 (p0 : Vec F S3072x256 .bf16) (y : S3072x256.Idx) :
    ∃ pc ∈ ([⟨r0_3, p0⟩] : List (View.Piece (Elt F) S3072x256 .bf16)), y ∈ pc.1.set :=
  View.cover_of_tiled [⟨r0_3, p0⟩] S3072x256.size (by rfl) y

/-- Window 5's staging buffer after the body, from the input windows' blocks: its 1 store as pieces, LAST
    FIRST. -/
def out0_5 (x0 : Vec F S3072x2304 .bf16) (x1 : Vec F S2304x256 .f32) (x2 : Vec F S3072x256 .bf16) (x3 : Vec F S1x256 .f32) : Vec F S2304x256 .f32 :=
  View.canon [⟨r0_0, k0_pay6 (View.ld x1 r0_0) (View.ld x3 r0_1) (View.ld x0 r0_2) (View.ld x2 r0_3)⟩]

/-- Its stores tile the buffer (checked by evaluation), so they cover it. -/
theorem cover0_5 (p0 : Vec F S2304x256 .f32) (y : S2304x256.Idx) :
    ∃ pc ∈ ([⟨r0_0, p0⟩] : List (View.Piece (Elt F) S2304x256 .f32)), y ∈ pc.1.set :=
  View.cover_of_tiled [⟨r0_0, p0⟩] S2304x256.size (by rfl) y

/-- Window 6's staging buffer after the body, from the input windows' blocks: its 1 store as pieces, LAST
    FIRST. -/
def out0_6 (x0 : Vec F S3072x2304 .bf16) (x1 : Vec F S2304x256 .f32) (x2 : Vec F S3072x256 .bf16) (x3 : Vec F S1x256 .f32) : Vec F S2304x256 .fp8e4m3 :=
  View.canon [⟨r0_0, k0_pay3 (View.ld x1 r0_0) (View.ld x3 r0_1)⟩]

/-- Its stores tile the buffer (checked by evaluation), so they cover it. -/
theorem cover0_6 (p0 : Vec F S2304x256 .fp8e4m3) (y : S2304x256.Idx) :
    ∃ pc ∈ ([⟨r0_0, p0⟩] : List (View.Piece (Elt F) S2304x256 .fp8e4m3)), y ∈ pc.1.set :=
  View.cover_of_tiled [⟨r0_0, p0⟩] S2304x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (i : grid0.Coords) (arg1 : Memref sig .tc .vmem S3072x2304 .bf16) (harg1 : arg1.IsWhole) (arg2 : Memref sig .tc .vmem S2304x256 .f32) (harg2 : arg2.IsWhole) (arg3 : Memref sig .tc .vmem S3072x256 .bf16) (harg3 : arg3.IsWhole) (arg4 : Memref sig .tc .vmem S1x256 .f32) (harg4 : arg4.IsWhole) (arg5 : Memref sig .tc .vmem S3072x256 .bf16) (harg5 : arg5.IsWhole) (arg6 : Memref sig .tc .vmem S2304x256 .f32) (harg6 : arg6.IsWhole) (arg7 : Memref sig .tc .vmem S2304x256 .fp8e4m3) (harg7 : arg7.IsWhole)
    (x0 : Vec F S3072x2304 .bf16) (x1 : Vec F S2304x256 .f32) (x2 : Vec F S3072x256 .bf16) (x3 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3) ∗ owns (c : Thread nD τ) arg6 fullShare (out0_5 x0 x1 x2 x3) ∗ owns (c : Thread nD τ) arg7 fullShare (out0_6 x0 x1 x2 x3)) -∗ K ⟨⟩))
      ⊢ wp frame (wpE (defs₀ (F := F)) Variants.none c none) E (cc0_forward_and_dw i arg1 harg1 arg2 harg2 arg3 harg3 arg4 harg4 arg5 harg5 arg6 harg6 arg7 harg7) K := by
  simp only [cc0_forward_and_dw_eq_skeleton]; unfold cc0_forward_and_dw_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-! ## The pipeline's proof data -/

/-- The proof data of pipeline 0 on core `c`: the arrays as the region finds them (`V`); after the body at
    point `t` each input's buffer at its block and each output's at `out0_W` of the input blocks; the invariant the
    class's (`ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Calls

end
-- ==== Proof.KernelIdeal.Call1.lean ====
/-
  The second pallas_call of the kernel (`input_gradient`, 6 row blocks by 5 steps over the contraction, point 5·row + step),
  at any contents `V` of the buffers at its entry and for any interpretation of the floats. The body adds one step's product
  into a scratch buffer that starts from zero at step 0 and is written out, rounded, at step 4. Here: the body's triple in
  each of its three cases, what the scratch holds after every point (`acc`), and the body's triple at every grid point.
-/
module

public import proofs.«01_k».proof.Proof.KernelIdeal.Call0
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.VecWindow
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: for any proof data whose array is the entry array and whose body leaves the block in place, the
    staging buffer holds the block of the point, whether or not it was fetched there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1: for any proof data whose array is the entry array and whose body leaves the block in place, the
    staging buffer holds the block of the point, whether or not it was fetched there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2: for any proof data whose array is the entry array and whose body leaves the block in place, the
    staging buffer holds the block of the point, whether or not it was fetched there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The first condition: the step (grid coordinate 1) is 0. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 5 = 0 :=
  (fun t => by
    have ht : t.val < 30 := Nat.lt_of_lt_of_eq t.isLt N_1
    have e1 : (grid1.coords t 1).val = t.val / 1 % 5 := Pipeline.Grid.coords_val t 1 (by decide) rfl
    simp only [cond1_0, e1]
    word_cmp
   : ∀ t : Fin grid1.N, cond1_0 (grid1.coords t) ↔ t.val % 5 = 0)

/-- The second condition: the step is 4, the last. -/
abbrev cond1_1 (i : grid1.Coords) : Prop := k1_cond2 i = 1#1
theorem hcond1_1 : ∀ t : Fin cfg1.N, cond1_1 (grid1.coords t) ↔ t.val % 5 = 4 :=
  (fun t => by
    have ht : t.val < 30 := Nat.lt_of_lt_of_eq t.isLt N_1
    have e1 : (grid1.coords t 1).val = t.val / 1 % 5 := Pipeline.Grid.coords_val t 1 (by decide) rfl
    simp only [cond1_1, k1_cond2, e1]
    word_cmp
   : ∀ t : Fin grid1.N, cond1_1 (grid1.coords t) ↔ t.val % 5 = 4)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Before the last step the output window is idle, and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step the output window is stored into. -/
theorem liveAt1_3 : ∀ t : Fin cfg1.N, cond1_1 (grid1.coords t) → cfg1.idle 3 (grid1.coords t) = false := by decide +kernel

/-! ## The body's triple in each case -/

/-- The scratch buffer, whole. -/
abbrev scM : Memref sig .tc .vmem S512x2304 .f32 := Memref.whole cc1_scratch0

set_option maxHeartbeats 1000000 in
/-- The body at step 0: the scratch, whatever it held, ends at the step's product added to zero; the output buffer is untouched. -/
theorem run1_A (c : Dev nD) (i : grid1.Coords) (arg2 : Memref sig .tc .vmem S512x1280 .bf16) (harg2 : arg2.IsWhole) (arg3 : Memref sig .tc .vmem S2304x1280 .fp8e4m3) (harg3 : arg3.IsWhole)
    (arg4 : Memref sig .tc .vmem S1x1280 .f32) (harg4 : arg4.IsWhole) (arg5 : Memref sig .tc .vmem S512x2304 .bf16) (harg5 : arg5.IsWhole) (arg6 : Memref sig .tc .vmem S512x2304 .f32) (harg6 : arg6.IsWhole)
    (hc0 : cond1_0 i) (hc1 : ¬cond1_1 i) (x0 : Vec F S512x1280 .bf16) (x1 : Vec F S2304x1280 .fp8e4m3) (x2 : Vec F S1x1280 .f32) (xi3 : Vec F S512x2304 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x1 x2 k1_pay1 x0)) -∗ K ⟨⟩))
      ⊢ wp frame (wpE (defs₀ (F := F)) Variants.none c none) E (cc1_input_gradient i arg2 harg2 arg3 harg3 arg4 harg4 arg5 harg5 arg6 harg6) K := by
  simp only [cc1_input_gradient_eq_skeleton]; unfold cc1_input_gradient_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0 hf1 hf2 hf3
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_full]
  (try unfold run1_A.sl.v11); (try unfold run1_A.sl.HS_1)
  rw [View.readAt_full, View.readAt_full, View.readAt_full, View.readCov_full]

set_option maxHeartbeats 1000000 in
/-- The body at a middle step: the step's product is added to what the scratch held; the output buffer is untouched. -/
theorem run1_B (c : Dev nD) (i : grid1.Coords) (arg2 : Memref sig .tc .vmem S512x1280 .bf16) (harg2 : arg2.IsWhole) (arg3 : Memref sig .tc .vmem S2304x1280 .fp8e4m3) (harg3 : arg3.IsWhole)
    (arg4 : Memref sig .tc .vmem S1x1280 .f32) (harg4 : arg4.IsWhole) (arg5 : Memref sig .tc .vmem S512x2304 .bf16) (harg5 : arg5.IsWhole) (arg6 : Memref sig .tc .vmem S512x2304 .f32) (harg6 : arg6.IsWhole)
    (hc0 : ¬cond1_0 i) (hc1 : ¬cond1_1 i) (x0 : Vec F S512x1280 .bf16) (x1 : Vec F S2304x1280 .fp8e4m3) (x2 : Vec F S1x1280 .f32) (xs : Vec F S512x2304 .f32) (xi3 : Vec F S512x2304 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare (k1_pay2 x1 x2 xs x0)) -∗ K ⟨⟩))
      ⊢ wp frame (wpE (defs₀ (F := F)) Variants.none c none) E (cc1_input_gradient i arg2 harg2 arg3 harg3 arg4 harg4 arg5 harg5 arg6 harg6) K := by
  simp only [cc1_input_gradient_eq_skeleton]; unfold cc1_input_gradient_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0 hf1 hf2 hf3 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [View.read_writes_full]
  rw [View.readAt_full, View.readAt_full, View.readAt_full, View.readAt_full]

set_option maxHeartbeats 1000000 in
/-- The body at the last step: the product is added to what the scratch held, and the sum, rounded, is stored whole into the output buffer. -/
theorem run1_C (c : Dev nD) (i : grid1.Coords) (arg2 : Memref sig .tc .vmem S512x1280 .bf16) (harg2 : arg2.IsWhole) (arg3 : Memref sig .tc .vmem S2304x1280 .fp8e4m3) (harg3 : arg3.IsWhole)
    (arg4 : Memref sig .tc .vmem S1x1280 .f32) (harg4 : arg4.IsWhole) (arg5 : Memref sig .tc .vmem S512x2304 .bf16) (harg5 : arg5.IsWhole) (arg6 : Memref sig .tc .vmem S512x2304 .f32) (harg6 : arg6.IsWhole)
    (hc0 : ¬cond1_0 i) (hc1 : cond1_1 i) (x0 : Vec F S512x1280 .bf16) (x1 : Vec F S2304x1280 .fp8e4m3) (x2 : Vec F S1x1280 .f32) (xs : Vec F S512x2304 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x1 x2 xs x0))
            ∗ owns (c : Thread nD τ) arg6 fullShare (k1_pay2 x1 x2 xs x0)) -∗ K ⟨⟩))
      ⊢ wp frame (wpE (defs₀ (F := F)) Variants.none c none) E (cc1_input_gradient i arg2 harg2 arg3 harg3 arg4 harg4 arg5 harg5 arg6 harg6) K := by
  simp only [cc1_input_gradient_eq_skeleton]; unfold cc1_input_gradient_skel
  unfold owns
  iintro ⟨⟨%f0, %hf0, H0⟩, ⟨%f1, %hf1, H1⟩, ⟨%f2, %hf2, H2⟩, ⟨%ds3, %f3, -, H3⟩, ⟨%fs, %hfs, HS⟩, Hk⟩
  subst hf0 hf1 hf2 hfs
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_full]
    (try unfold run1_C.sl.v22); (try unfold run1_C.sl.HS_1)
    rw [View.readCov_full, View.readAt_full, View.readAt_full, View.readAt_full, View.readAt_full]
  iexists _; isplitr
  swap; · iexact HS
  ipureintro
  (try unfold run1_C.sl.HS_1)
  rw [View.read_writes_full]
  rw [View.readAt_full, View.readAt_full, View.readAt_full, View.readAt_full]

/-! ## What the scratch holds after every point -/

/-- What the scratch holds after the body at position `n`: restarted at step 0, accumulated over the position before otherwise. -/
def acc (c : Dev nD) : (n : ℕ) → n < cfg1.N → Vec F S512x2304 .f32
  | 0, hn => k1_pay2 (iblk1 V c 1 ⟨0, hn⟩) (iblk1 V c 2 ⟨0, hn⟩) k1_pay1 (iblk1 V c 0 ⟨0, hn⟩)
  | n + 1, hn =>
    k1_pay2 (iblk1 V c 1 ⟨n + 1, hn⟩) (iblk1 V c 2 ⟨n + 1, hn⟩) (if (n + 1) % 5 = 0 then k1_pay1 else acc c n (Nat.lt_of_succ_lt hn)) (iblk1 V c 0 ⟨n + 1, hn⟩)

/-- At step 0 the sum restarts from zero. -/
theorem acc_first (c : Dev nD) (t : Fin cfg1.N) (h0 : t.val % 5 = 0) :
    acc V c t.val t.isLt = k1_pay2 (iblk1 V c 1 t) (iblk1 V c 2 t) k1_pay1 (iblk1 V c 0 t) := by
  obtain ⟨n, hn⟩ := t
  cases n with
  | zero => rfl
  | succ n => show k1_pay2 _ _ (if (n + 1) % 5 = 0 then k1_pay1 else acc V c n (Nat.lt_of_succ_lt hn)) _ = _; rw [if_pos h0]

/-- At every other step the product is added to what the point before left. -/
theorem acc_next (c : Dev nD) (t : Fin cfg1.N) (h0 : ¬t.val % 5 = 0) :
    acc V c t.val t.isLt = k1_pay2 (iblk1 V c 1 t) (iblk1 V c 2 t) (acc V c (t.val - 1) (Nat.lt_of_le_of_lt (Nat.sub_le _ _) t.isLt)) (iblk1 V c 0 t) := by
  obtain ⟨n, hn⟩ := t
  cases n with
  | zero => exact absurd (Nat.zero_mod _) h0
  | succ n => show k1_pay2 _ _ (if (n + 1) % 5 = 0 then k1_pay1 else acc V c n (Nat.lt_of_succ_lt hn)) _ = _; rw [if_neg h0]; rfl

/-- The staging buffers of the first call, at anything: this call does not touch them. -/
def oth (c : Dev nD) : sProp 𝕄 :=
  iprop((∃ f, (c : Thread nD τ).loc cc0_stg0_0 ↦{fullShare} f)
    ∗ (∃ f, (c : Thread nD τ).loc cc0_stg1_0 ↦{fullShare} f)
    ∗ (∃ f, (c : Thread nD τ).loc cc0_stg1_1 ↦{fullShare} f)
    ∗ (∃ f, (c : Thread nD τ).loc cc0_stg2_0 ↦{fullShare} f)
    ∗ (∃ f, (c : Thread nD τ).loc cc0_stg2_1 ↦{fullShare} f)
    ∗ (∃ f, (c : Thread nD τ).loc cc0_stg3_0 ↦{fullShare} f)
    ∗ (∃ f, (c : Thread nD τ).loc cc0_stg3_1 ↦{fullShare} f)
    ∗ (∃ f, (c : Thread nD τ).loc cc0_stg4_0 ↦{fullShare} f)
    ∗ (∃ f, (c : Thread nD τ).loc cc0_stg4_1 ↦{fullShare} f)
    ∗ (∃ f, (c : Thread nD τ).loc cc0_stg5_0 ↦{fullShare} f)
    ∗ (∃ f, (c : Thread nD τ).loc cc0_stg5_1 ↦{fullShare} f)
    ∗ (∃ f, (c : Thread nD τ).loc cc0_stg6_0 ↦{fullShare} f)
    ∗ (∃ f, (c : Thread nD τ).loc cc0_stg6_1 ↦{fullShare} f))

/-- The call is entered with the scratch at anything, the other buffers and the generator register. -/
theorem PhiA1_in (c : Dev nD) : Pipeline.ΦA spec1 c ⊢ iprop(iprop((∃ d, owns (c : Thread nD τ) scM fullShare d) ∗ oth (F := F) c) ∗ (∃ r, prngReg c r)) := by
  unfold Pipeline.ΦA oth; rw [scopedRest1_eq]; simp only [scM, owns_whole]
  iintro ⟨⟨H0, H1, H2, H3, H4, H5, H6, H7, H8, H9, H10, H11, H12, HS⟩, Hg⟩
  isplitr [Hg]
  · isplitl [HS]; · iexact HS
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iexact Hg

/-- And gives the same back. -/
theorem PhiA1_out (c : Dev nD) : iprop(iprop((∃ d, owns (c : Thread nD τ) scM fullShare d) ∗ oth (F := F) c) ∗ (∃ r, prngReg c r)) ⊢ Pipeline.ΦA spec1 c := by
  unfold Pipeline.ΦA oth; rw [scopedRest1_eq]; simp only [scM, owns_whole]
  iintro ⟨⟨HS, H0, H1, H2, H3, H4, H5, H6, H7, H8, H9, H10, H11, H12⟩, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact HS
  iexact Hg

/-- The invariant before position `n`: before the first point the scratch at anything, afterwards at what the point before left. -/
def PhiS1 (c : Dev nD) : (n : ℕ) → n ≤ cfg1.N → sProp 𝕄
  | 0, _ => iprop(iprop((∃ d, owns (c : Thread nD τ) scM fullShare d) ∗ oth (F := F) c) ∗ (∃ r, prngReg c r))
  | n + 1, hn => iprop(iprop(owns (c : Thread nD τ) scM fullShare (acc V c n hn) ∗ oth (F := F) c) ∗ (∃ r, prngReg c r))

theorem PhiS1_zero (c : Dev nD) (n : ℕ) (h : n ≤ cfg1.N) (hz : n = 0) : PhiS1 V c n h = iprop(iprop((∃ d, owns (c : Thread nD τ) scM fullShare d) ∗ oth (F := F) c) ∗ (∃ r, prngReg c r)) := by
  subst hz; rfl

theorem PhiS1_succ (c : Dev nD) (n : ℕ) (hn : n < cfg1.N) :
    PhiS1 V c (n + 1) hn = iprop(iprop(owns (c : Thread nD τ) scM fullShare (acc V c n hn) ∗ oth (F := F) c) ∗ (∃ r, prngReg c r)) := rfl

theorem PhiS1_pos (c : Dev nD) (n : ℕ) (h : n ≤ cfg1.N) (hz : n ≠ 0) :
    PhiS1 V c n h = iprop(iprop(owns (c : Thread nD τ) scM fullShare (acc V c (n - 1) (by omega)) ∗ oth (F := F) c) ∗ (∃ r, prngReg c r)) := by
  cases n with
  | zero => exact absurd rfl hz
  | succ n => rfl

/-! ## The pipeline's proof data -/

/-- The arrays as the call finds them; each input's buffer keeps its block; the output's, where it is stored into, holds the
    rounded sum; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: by its step the point is in one of the three cases, whose triple applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 5 = 0
  · have h1 : ¬t.val % 5 = 4 := by omega
    have hc1 : ¬cond1_1 (grid1.coords t) := fun h => h1 ((hcond1_1 t).mp h)
    rw [Dat.leavesExact_idle (dat1 V c) 3 t (idleAt1_3 t hc1) (noFlush1_3 t hc1), acc_first V c t h0]
    by_cases hz : t.val = 0
    · rw [Phi1_castSucc V c t, PhiS1_zero V c _ _ hz]
      iintro ⟨⟨⟨HS, Hb⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      iexists _; iexact H3
    · rw [Phi1_castSucc V c t, PhiS1_pos V c _ _ hz]
      iintro ⟨⟨⟨HS, Hb⟩, Hg⟩, Ho, ⟨%d0, H0⟩, ⟨%d1, H1⟩, ⟨%d2, H2⟩, ⟨%d3, H3⟩⟩
      iapply (run1_A c (grid1.coords t) _ _ _ _ _ _ _ _ _ _ ((hcond1_0 t).mpr h0) hc1 (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      iexists _; iexact H3
  · have hc0 : ¬cond1_0 (grid1.coords t) := fun h => h0 ((hcond1_0 t).mp h)
    have hz : t.val ≠ 0 := fun h => h0 (by rw [h])
    rw [Phi1_castSucc V c t, PhiS1_pos V c _ _ hz]
    by_cases h1 : t.val % 5 = 4
    · have hc1 : cond1_1 (grid1.coords t) := (hcond1_1 t).mpr h1
      rw [show (dat1 V c).leavesExact 3 t = owns (c : Thread nD τ) (st1_3 t) fullShare ((dat1 V c).after 3 t) from by
        unfold Dat.leavesExact; rw [liveAt1_3 t hc1], after1_3, acc_next V c t h0]
      iintro ⟨⟨⟨HS, Hb⟩, Hg⟩, Ho, ⟨%d0, H0⟩, ⟨%d1, H1⟩, ⟨%d2, H2⟩, ⟨%d3, H3⟩⟩
      iapply (run1_C c (grid1.coords t) _ _ _ _ _ _ _ _ _ _ hc0 hc1 (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      iexact H3
    · have hc1 : ¬cond1_1 (grid1.coords t) := fun h => h1 ((hcond1_1 t).mp h)
      rw [Dat.leavesExact_idle (dat1 V c) 3 t (idleAt1_3 t hc1) (noFlush1_3 t hc1), acc_next V c t h0]
      iintro ⟨⟨⟨HS, Hb⟩, Hg⟩, Ho, ⟨%d0, H0⟩, ⟨%d1, H1⟩, ⟨%d2, H2⟩, ⟨%d3, H3⟩⟩
      iapply (run1_B c (grid1.coords t) _ _ _ _ _ _ _ _ _ _ hc0 hc1 (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hb Hg]
      · isplitl [HS Hb]
        · isplitl [HS]; · iexact HS
          iexact Hb
        iexact Hg
      isplitl [Ho]; · iexact Ho
      isplitl [H0]; · iexact H0
      isplitl [H1]; · iexact H1
      isplitl [H2]; · iexact H2
      iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body's triple at every point, in the form the pipeline's rule takes. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the call is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  exact PhiA1_in c

/-- After the last point the invariant gives the scratch back at some contents. -/
theorem hout1 (c : Dev nD) : (dat1 V c).Φ (Fin.last cfg1.N) ⊢ Pipeline.ΦA spec1 c := by
  have ht : (Fin.last cfg1.N).val ≠ 0 := by rw [Fin.val_last]; have : cfg1.N = 30 := N_1; omega
  rw [show (dat1 V c).Φ (Fin.last cfg1.N) = PhiS1 V c (Fin.last cfg1.N).val (Nat.le_of_lt_succ (Fin.last cfg1.N).isLt) from rfl, PhiS1_pos V c _ _ ht]
  iintro ⟨⟨HS, Hb⟩, Hg⟩
  iapply (PhiA1_out c)
  isplitr [Hg]
  · isplitl [HS]
    · iexists _; iexact HS
    iexact Hb
  iexact Hg

end Cert.KernelIdeal.Calls

end
-- ==== Proof.KernelIdeal.Run.lean ====
/-
  The whole run of @main at any interpretation of the floats: the reshapes of the arguments, the first pallas_call, the second,
  the reshapes of the results. From any memory with zero counters every execution terminates with each buffer at the contents
  `W4` computed below and every semaphore counter at zero (`run`); so the arguments end unchanged (`frame`).
-/
module

public import proofs.«01_k».proof.Proof.Gen.KernelIdeal.Regions
public import proofs.«01_k».proof.Proof.KernelIdeal.Call1
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3]

/-! ## The buffers' contents at each boundary of @main -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

/-- After the host operations `hostOps0`. -/
def W1 (c : Dev nD) : Valuation τ sig (Elt F) := StableHlo.after hostOps0 (W0 m ρ c)
/-- A reference those operations do not write keeps its contents. -/
theorem W1_of (c : Dev nD) (r : Ref sig .tc) (h : r ∉ hostOps0_W) : W1 m ρ c r = W0 m ρ c r :=
  StableHlo.after_of_writes_sub hostOps0 _ hostOps0_writes h
theorem argsHost0 : ∀ a ∈ argRefs, a ∉ hostOps0_W := by decide
theorem W1_args (c : Dev nD) : ∀ a ∈ argRefs, W1 m ρ c (Proc.devRef .tc a) = m ((c : Thread nD τ).loc a) :=
  fun a ha => (W1_of m ρ c a (argsHost0 a ha)).trans (W0_args m ρ c a ha)
/-- The same read at the TensorCore's references. -/
abbrev U1 : (c : Dev nD) → (b : Ref sig .tc) → Buf (Elt F) ((c : Thread nD τ).loc b) := fun c b => W1 m ρ c b

/-- After call 0: its arrays at what the pipeline leaves, every other buffer as entered. -/
def W2 (c : Dev nD) : Valuation τ sig (Elt F) :=
  Pipeline.withArrays spec0 c (W1 m ρ c) fun w => (dat0 (U1 m ρ) c).arrAt w cfg0.N
theorem W2_arr (c : Dev nD) (w : Fin cfg0.W) :
    W2 m ρ c (Proc.devRef .tc (Pipeline.arrRef spec0 w)) = (dat0 (U1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of call 0's output arrays keeps its contents across it. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (U1 m ρ) c).arrAt_in w (h w rfl) _).trans (A_eq0 (U1 m ρ) c w))
  · exact W2_of_ne m ρ c r fun w e => hw ⟨w, e⟩
/-- No argument is an output array of call 0. -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references. -/
abbrev U2 : (c : Dev nD) → (b : Ref sig .tc) → Buf (Elt F) ((c : Thread nD τ).loc b) := fun c b => W2 m ρ c b
theorem hF0 (c : Dev nD) (w : Fin cfg0.W) : (dat0 (U1 m ρ) c).arrAt w cfg0.N = U2 m ρ c (Pipeline.arrRef spec0 w) :=
  (W2_arr m ρ c w).symm
theorem hrest0 (c : Dev nD) : ∀ b, b ∉ Finset.univ.image (Pipeline.arrRef spec0) → U2 m ρ c b = U1 m ρ c b :=
  fun b hb => W2_of_ne m ρ c b fun w e => hb (Finset.mem_image.mpr ⟨w, Finset.mem_univ _, e⟩)

/-- After call 1: its arrays at what the pipeline leaves, every other buffer as entered. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of call 1's output arrays keeps its contents across it. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (U2 m ρ) c).arrAt_in w (h w rfl) _).trans (A_eq1 (U2 m ρ) c w))
  · exact W3_of_ne m ρ c r fun w e => hw ⟨w, e⟩
/-- No argument is an output array of call 1. -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references. -/
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the host operations `hostOps2`. -/
def W4 (c : Dev nD) : Valuation τ sig (Elt F) := StableHlo.after hostOps2 (W3 m ρ c)
/-- A reference those operations do not write keeps its contents. -/
theorem W4_of (c : Dev nD) (r : Ref sig .tc) (h : r ∉ hostOps2_W) : W4 m ρ c r = W3 m ρ c r :=
  StableHlo.after_of_writes_sub hostOps2 _ hostOps2_writes h
theorem argsHost2 : ∀ a ∈ argRefs, a ∉ hostOps2_W := by decide
theorem W4_args (c : Dev nD) : ∀ a ∈ argRefs, W4 m ρ c (Proc.devRef .tc a) = m ((c : Thread nD τ).loc a) :=
  fun a ha => (W4_of m ρ c a (argsHost2 a ha)).trans (W3_args m ρ c a ha)
/-- The same read at the TensorCore's references. -/
abbrev U4 : (c : Dev nD) → (b : Ref sig .tc) → Buf (Elt F) ((c : Thread nD τ).loc b) := fun c b => W4 m ρ c b

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (U1 m ρ) c
  | ⟨1, _⟩ => fun c => dat1 (U2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every unscoped buffer at `W4`, the generator register at some state. -/
abbrev Tₙ (c : Dev nD) : sProp 𝕄 := iprop(StableHlo.held (c : Thread nD τ) (Pipeline.ucRefs τ sig) (W4 m ρ c) ∗ ∃ r, prngReg c r)

/-- The last segment's exit is the last thread state beside the core owing nothing. -/
theorem hlast (c : Dev nD) : iprop(StableHlo.held (c : Thread nD τ) (Pipeline.ucRefs τ sig) (W4 m ρ c) ∗ R (F := F) c)
    ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

-- `iapply` of a library lemma stated over `pin pcs a p` unifies with the pinned configuration only when unification may
-- unfold plain definitions in a metavariable's type
set_option backward.isDefEq.respectTransparency.types false in
/-- Call 0 over the thread state: entered from every unscoped buffer at `W1`, left at `W2`. Its arrays are split out of
    the unscoped buffers and put back; the generator register goes into the invariant and out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U1 m ρ c) (A_eq0 (U1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U1 m ρ c) (U2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Call 1 over the thread state: entered from every unscoped buffer at `W2`, left at `W3`. Its arrays are split out of
    the unscoped buffers and put back; the generator register goes into the invariant and out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) (A_eq1 (U2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (U2 m ρ) c
    unfold Pipeline.ΦA at h
    rw [show (pdats m ρ 1 c).Φ 0 = (dat1 (U2 m ρ) c).Φ 0 from rfl]
    iintro ⟨Hp, -, Hr⟩
    iapply h
    isplitl [Hr]; · iexact Hr
    iexact Hp
  hout c := by
    have h := hout1 (U2 m ρ) c
    unfold Pipeline.ΦA at h
    rw [Pipeline.ownSems0_none, show (pdats m ρ 1 c).Φ (Fin.last _) = (dat1 (U2 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments: the reshapes, the two calls, the reshapes back. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- From any memory with zero counters every execution of @main terminates, with every unscoped buffer at `W4` and every
    semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c =>
      ⟨(h.1 c _ (mem_uc main_arg0 (by decide))).trans (W4_args m ρ c main_arg0 (by decide)),
       (h.1 c _ (mem_uc main_arg1 (by decide))).trans (W4_args m ρ c main_arg1 (by decide)),
       (h.1 c _ (mem_uc main_arg2 (by decide))).trans (W4_args m ρ c main_arg2 (by decide)),
       (h.1 c _ (mem_uc main_arg3 (by decide))).trans (W4_args m ρ c main_arg3 (by decide))⟩, h.2⟩) (run m ρ)

end Cert.KernelIdeal.Calls

end
-- ==== Proof.Value.Pay.lean ====
/-
  The values the two kernel bodies compute, read at one element over the extended reals, and the arrays the two calls leave, as
  functions of the flattened operands: `codesOf`, `yOf`, `dwOf` (first call), `dxOf` (second call).
-/
module

public import proofs.«01_k».proof.Proof.Gen.KernelIdeal.Skeleton
public import Idealize.ShloMosaic.Lib.Pointwise

@[expose] public section

set_option maxRecDepth 16384

noncomputable section

namespace Cert.Value

open Idealize.ShloMosaic Cert.KernelIdeal Cert.KernelIdeal.Gen

/-- One weight divided by its column's scale and clamped to [-448, 448] (the rounding to fp8 is the identity here). -/
def code (w s : EReal) : EReal :=
  min (Ideal.ofBits FTy.f32 1138753536#32) (max (Ideal.ofBits FTy.f32 3286237184#32) (w * Ideal.div 1 s))

/-- `p` where the weight's scaled magnitude is at most 448, zero elsewhere. -/
def masked (w s p : EReal) : EReal :=
  if FloatOps.absf (F := Ideal) (φ := .f32) w * Ideal.div 1 s ≤ Ideal.ofBits FTy.f32 1138753536#32 then p else 0

/-- The codes of the weights `W` under the column scales `S`. -/
def codesOf (W : Vec Ideal S2304x6400 .f32) (S : Vec Ideal S1x6400 .f32) : Vec Ideal S2304x6400 .fp8e4m3 :=
  fun j => code (W j) (S (ix2 0 (j 1)))

/-- `X` times the dequantised weights. -/
def yOf (X : Vec Ideal S3072x2304 .bf16) (W : Vec Ideal S2304x6400 .f32) (S : Vec Ideal S1x6400 .f32) : Vec Ideal S3072x6400 .bf16 :=
  fun j => ∑ k : Fin 2304, X (ix2 (j 0) k) * (code (W (ix2 k (j 1))) (S (ix2 0 (j 1))) * S (ix2 0 (j 1)))

/-- `Xᵀ` times `G`, zero where the weight was clamped. -/
def dwOf (X : Vec Ideal S3072x2304 .bf16) (G : Vec Ideal S3072x6400 .bf16) (W : Vec Ideal S2304x6400 .f32) (S : Vec Ideal S1x6400 .f32) :
    Vec Ideal S2304x6400 .f32 :=
  fun j => masked (W j) (S (ix2 0 (j 1))) (∑ r : Fin 3072, X (ix2 r (j 0)) * G (ix2 r (j 1)))

/-- `G` times the transpose of the dequantised weights, from the codes `C`. -/
def dxOf (G : Vec Ideal S3072x6400 .bf16) (C : Vec Ideal S2304x6400 .fp8e4m3) (S : Vec Ideal S1x6400 .f32) : Vec Ideal S3072x2304 .bf16 :=
  fun j => ∑ n : Fin 6400, G (ix2 (j 0) n) * (C (ix2 (j 1) n) * S (ix2 0 n))

/-! ## The payloads at one element -/

theorem pay3_apply (v0 : Vec Ideal S2304x256 .f32) (v1 : Vec Ideal S1x256 .f32) (j0 : Fin 2304) (j1 : Fin 256) :
    k0_pay3 (F := Ideal) v0 v1 (ix2 j0 j1) = code (v0 (ix2 j0 j1)) (v1 (ix2 0 j1)) := by
  pointwise [k0_pay3, k0_pay2, k0_pay1]
  rfl

theorem pay5_apply (v0 : Vec Ideal S2304x256 .f32) (v1 : Vec Ideal S1x256 .f32) (v17 : Vec Ideal S3072x2304 .bf16) (j0 : Fin 3072) (j1 : Fin 256) :
    k0_pay5 (F := Ideal) v0 v1 v17 (ix2 j0 j1)
      = ∑ k : Fin 2304, v17 (ix2 j0 k) * (code (v0 (ix2 k j1)) (v1 (ix2 0 j1)) * v1 (ix2 0 j1)) := by
  pointwise [k0_pay5, k0_pay4, k0_pay1]
  exact Finset.sum_congr rfl fun k _ => by rw [pay3_apply]

theorem pay6_apply (v0 : Vec Ideal S2304x256 .f32) (v1 : Vec Ideal S1x256 .f32) (v17 : Vec Ideal S3072x2304 .bf16) (v22 : Vec Ideal S3072x256 .bf16)
    (j0 : Fin 2304) (j1 : Fin 256) :
    k0_pay6 (F := Ideal) v0 v1 v17 v22 (ix2 j0 j1)
      = masked (v0 (ix2 j0 j1)) (v1 (ix2 0 j1)) (∑ r : Fin 3072, v17 (ix2 r j0) * v22 (ix2 r j1)) := by
  pointwise [k0_pay6, k0_pay4, k0_pay2, k0_pay1]
  rfl

theorem step_apply (v3 : Vec Ideal S2304x1280 .fp8e4m3) (v6 : Vec Ideal S1x1280 .f32) (v11 : Vec Ideal S512x2304 .f32) (v12 : Vec Ideal S512x1280 .bf16)
    (j0 : Fin 512) (j1 : Fin 2304) :
    k1_pay2 (F := Ideal) v3 v6 v11 v12 (ix2 j0 j1)
      = v11 (ix2 j0 j1) + ∑ n : Fin 1280, v12 (ix2 j0 n) * (v3 (ix2 j1 n) * v6 (ix2 0 n)) := by
  pointwise [k1_pay2]

theorem zero_apply (j0 : Fin 512) (j1 : Fin 2304) : k1_pay1 (F := Ideal) (ix2 j0 j1) = (0 : EReal) := by
  pointwise [k1_pay1]

theorem round_apply (v : Vec Ideal S512x2304 .f32) (j0 : Fin 512) (j1 : Fin 2304) : k1_pay3 (F := Ideal) v (ix2 j0 j1) = v (ix2 j0 j1) := by
  pointwise [k1_pay3]

end Cert.Value

end
-- ==== Proof.Value.Call0.lean ====
/-
  The three arrays the kernel's first call leaves over the extended reals, as functions of the arrays it finds: every
  column block is read off `yOf`, `dwOf` and `codesOf`, and the 25 column blocks fill each array.
-/
module

public import proofs.«01_k».proof.Proof.Value.Pay
public import proofs.«01_k».proof.Proof.KernelIdeal.Call0
public import Idealize.ShloMosaic.Lib.Pipeline.Value

@[expose] public section

set_option maxRecDepth 16384

noncomputable section

namespace Cert.Value

open Idealize.ShloMosaic Idealize.ShloMosaic.TcCoe Cert.KernelIdeal Cert.KernelIdeal.Gen Cert.KernelIdeal.Calls
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## What the body leaves in each output block -/

theorem out0_4_eq (x0 : Vec Ideal S3072x2304 .bf16) (x1 : Vec Ideal S2304x256 .f32) (x2 : Vec Ideal S3072x256 .bf16) (x3 : Vec Ideal S1x256 .f32) :
    out0_4 x0 x1 x2 x3 = k0_pay5 x1 x3 x0 := by
  rw [out0_4, View.canon_unit_zero hz, View.ld_unit_zero (S := S2304x256) hz _ x1, View.ld_unit_zero (S := S1x256) hz _ x3,
    View.ld_unit_zero (S := S3072x2304) hz _ x0]

theorem out0_5_eq (x0 : Vec Ideal S3072x2304 .bf16) (x1 : Vec Ideal S2304x256 .f32) (x2 : Vec Ideal S3072x256 .bf16) (x3 : Vec Ideal S1x256 .f32) :
    out0_5 x0 x1 x2 x3 = k0_pay6 x1 x3 x0 x2 := by
  rw [out0_5, View.canon_unit_zero hz, View.ld_unit_zero (S := S2304x256) hz _ x1, View.ld_unit_zero (S := S1x256) hz _ x3,
    View.ld_unit_zero (S := S3072x2304) hz _ x0, View.ld_unit_zero (S := S3072x256) hz _ x2]

theorem out0_6_eq (x0 : Vec Ideal S3072x2304 .bf16) (x1 : Vec Ideal S2304x256 .f32) (x2 : Vec Ideal S3072x256 .bf16) (x3 : Vec Ideal S1x256 .f32) :
    out0_6 x0 x1 x2 x3 = k0_pay3 x1 x3 := by
  rw [out0_6, View.canon_unit_zero hz, View.ld_unit_zero (S := S2304x256) hz _ x1, View.ld_unit_zero (S := S1x256) hz _ x3]

/-! ## Where each block lies -/

/-- The whole of `x` at every point; column block `t` of every other array. -/
theorem index0 : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, t.val] ∧ win0_6.index t = ![0, t.val] :=
  (by decide +kernel : ∀ t : Fin grid0.N, _)

/-- Column `b` of block `t`. -/
def col (t : Fin cfg0.N) (b : Fin 256) : Fin 6400 :=
  ⟨t.val * 256 + b.val, by have h : t.val < 25 := t.isLt.trans_eq N_0; omega⟩

variable (c : Dev nD) (t : Fin cfg0.N)

theorem blk0_0 (a : Fin 3072) (b : Fin 2304) : iblk0 V c 0 t (ix2 a b) = V c main_v0 (ix2 a b) := by
  show V c main_v0 (((cfg0.win 0).blk t).view.emb (ix2 a b)) = _
  congr 1; funext x; apply Fin.ext
  match x with
  | ⟨0, _⟩ => show win0_0.index t 0 * 3072 + 1 * a.val = a.val; rw [(index0 t).1]; show 0 * 3072 + _ = _; omega
  | ⟨1, _⟩ => show win0_0.index t 1 * 2304 + 1 * b.val = b.val; rw [(index0 t).1]; show 0 * 2304 + _ = _; omega

theorem blk0_1 (a : Fin 2304) (b : Fin 256) : iblk0 V c 1 t (ix2 a b) = V c main_arg1 (ix2 a (col t b)) := by
  show V c main_arg1 (((cfg0.win 1).blk t).view.emb (ix2 a b)) = _
  congr 1; funext x; apply Fin.ext
  match x with
  | ⟨0, _⟩ => show win0_1.index t 0 * 2304 + 1 * a.val = a.val; rw [(index0 t).2.1]; show 0 * 2304 + _ = _; omega
  | ⟨1, _⟩ => show win0_1.index t 1 * 256 + 1 * b.val = t.val * 256 + b.val; rw [(index0 t).2.1]; show t.val * 256 + _ = _; omega

theorem blk0_2 (a : Fin 3072) (b : Fin 256) : iblk0 V c 2 t (ix2 a b) = V c main_v1 (ix2 a (col t b)) := by
  show V c main_v1 (((cfg0.win 2).blk t).view.emb (ix2 a b)) = _
  congr 1; funext x; apply Fin.ext
  match x with
  | ⟨0, _⟩ => show win0_2.index t 0 * 3072 + 1 * a.val = a.val; rw [(index0 t).2.2.1]; show 0 * 3072 + _ = _; omega
  | ⟨1, _⟩ => show win0_2.index t 1 * 256 + 1 * b.val = t.val * 256 + b.val; rw [(index0 t).2.2.1]; show t.val * 256 + _ = _; omega

theorem blk0_3 (b : Fin 256) : iblk0 V c 3 t (ix2 0 b) = V c main_v2 (ix2 0 (col t b)) := by
  show V c main_v2 (((cfg0.win 3).blk t).view.emb (ix2 0 b)) = _
  congr 1; funext x; apply Fin.ext
  match x with
  | ⟨0, _⟩ => show win0_3.index t 0 * 1 + 1 * 0 = 0; rw [(index0 t).2.2.2.1]; rfl
  | ⟨1, _⟩ => show win0_3.index t 1 * 256 + 1 * b.val = t.val * 256 + b.val; rw [(index0 t).2.2.2.1]; show t.val * 256 + _ = _; omega

theorem emb0_4 (a : Fin 3072) (b : Fin 256) : ((cfg0.win 4).blk t).view.emb (ix2 a b) = (ix2 a (col t b) : S3072x6400.Idx) := by
  funext x; apply Fin.ext
  match x with
  | ⟨0, _⟩ => show win0_4.index t 0 * 3072 + 1 * a.val = a.val; rw [(index0 t).2.2.2.2.1]; show 0 * 3072 + _ = _; omega
  | ⟨1, _⟩ => show win0_4.index t 1 * 256 + 1 * b.val = t.val * 256 + b.val; rw [(index0 t).2.2.2.2.1]; show t.val * 256 + _ = _; omega

theorem emb0_5 (a : Fin 2304) (b : Fin 256) : ((cfg0.win 5).blk t).view.emb (ix2 a b) = (ix2 a (col t b) : S2304x6400.Idx) := by
  funext x; apply Fin.ext
  match x with
  | ⟨0, _⟩ => show win0_5.index t 0 * 2304 + 1 * a.val = a.val; rw [(index0 t).2.2.2.2.2.1]; show 0 * 2304 + _ = _; omega
  | ⟨1, _⟩ => show win0_5.index t 1 * 256 + 1 * b.val = t.val * 256 + b.val; rw [(index0 t).2.2.2.2.2.1]; show t.val * 256 + _ = _; omega

theorem emb0_6 (a : Fin 2304) (b : Fin 256) : ((cfg0.win 6).blk t).view.emb (ix2 a b) = (ix2 a (col t b) : S2304x6400.Idx) := by
  funext x; apply Fin.ext
  match x with
  | ⟨0, _⟩ => show win0_6.index t 0 * 2304 + 1 * a.val = a.val; rw [(index0 t).2.2.2.2.2.2]; show 0 * 2304 + _ = _; omega
  | ⟨1, _⟩ => show win0_6.index t 1 * 256 + 1 * b.val = t.val * 256 + b.val; rw [(index0 t).2.2.2.2.2.2]; show t.val * 256 + _ = _; omega

/-! ## What each point writes back -/

theorem flushed0_4 : (dat0 V c).flushed 4 t
    = ((cfg0.win 4).blk t).view.read (Elt Ideal) (yOf (V c main_v0) (V c main_arg1) (V c main_v2)) := by
  show (cfg0.win 4).cut (grid0.coords t) ((dat0 V c).after 4 t) = _
  rw [after0_4, out0_4_eq]
  suffices h : ∀ j : S3072x256.Idx, k0_pay5 (iblk0 V c 1 t) (iblk0 V c 3 t) (iblk0 V c 0 t) j
      = yOf (V c main_v0) (V c main_arg1) (V c main_v2) (((cfg0.win 4).blk t).view.emb j) from funext h
  intro j
  idx_vars j
  rw [emb0_4]
  refine (pay5_apply _ _ _ _ _).trans (Finset.sum_congr rfl fun k _ => ?_)
  rw [blk0_0, blk0_1, blk0_3]
  rfl

theorem flushed0_5 : (dat0 V c).flushed 5 t
    = ((cfg0.win 5).blk t).view.read (Elt Ideal) (dwOf (V c main_v0) (V c main_v1) (V c main_arg1) (V c main_v2)) := by
  show (cfg0.win 5).cut (grid0.coords t) ((dat0 V c).after 5 t) = _
  rw [after0_5, out0_5_eq]
  suffices h : ∀ j : S2304x256.Idx, k0_pay6 (iblk0 V c 1 t) (iblk0 V c 3 t) (iblk0 V c 0 t) (iblk0 V c 2 t) j
      = dwOf (V c main_v0) (V c main_v1) (V c main_arg1) (V c main_v2) (((cfg0.win 5).blk t).view.emb j) from funext h
  intro j
  idx_vars j
  rw [emb0_5]
  refine (pay6_apply _ _ _ _ _ _).trans ?_
  rw [blk0_1, blk0_3]
  refine congrArg (masked _ _) (Finset.sum_congr rfl fun k _ => ?_)
  rw [blk0_0, blk0_2]
  rfl

theorem flushed0_6 : (dat0 V c).flushed 6 t
    = ((cfg0.win 6).blk t).view.read (Elt Ideal) (codesOf (V c main_arg1) (V c main_v2)) := by
  show (cfg0.win 6).cut (grid0.coords t) ((dat0 V c).after 6 t) = _
  rw [after0_6, out0_6_eq]
  suffices h : ∀ j : S2304x256.Idx, k0_pay3 (iblk0 V c 1 t) (iblk0 V c 3 t) j
      = codesOf (V c main_arg1) (V c main_v2) (((cfg0.win 6).blk t).view.emb j) from funext h
  intro j
  idx_vars j
  rw [emb0_6]
  refine (pay3_apply _ _ _ _).trans ?_
  rw [blk0_1, blk0_3]
  rfl

/-! ## The blocks fill the arrays -/

/-- The point whose block holds column `n`. -/
def pt0 (n : ℕ) (h : n < 6400) : Fin cfg0.N := ⟨n / 256, by rw [show cfg0.N = 25 from N_0]; omega⟩

theorem covered0_4 (i : S3072x6400.Idx) : ∃ t : Fin cfg0.N, (cfg0.win 4).flush t = true ∧ i ∈ ((cfg0.win 4).blk t).view.set := by
  have h0 : (i 0).val < 3072 := (i 0).isLt
  have h1 : (i 1).val < 6400 := (i 1).isLt
  refine ⟨pt0 _ h1, flush0_4 _, ?_⟩
  show i ∈ ((View.whole main_v3_0).slice (win0_4.rect (pt0 _ h1))).set
  rw [View.set_slice_whole, Rect.mem_set_unit]
  intro a
  match a with
  | ⟨0, _⟩ => show win0_4.index (pt0 _ h1) 0 * 3072 ≤ (i 0).val ∧ (i 0).val < win0_4.index (pt0 _ h1) 0 * 3072 + 3072
              rw [(index0 _).2.2.2.2.1]; show 0 * 3072 ≤ _ ∧ _ < 0 * 3072 + 3072; omega
  | ⟨1, _⟩ => show win0_4.index (pt0 _ h1) 1 * 256 ≤ (i 1).val ∧ (i 1).val < win0_4.index (pt0 _ h1) 1 * 256 + 256
              rw [(index0 _).2.2.2.2.1]; show (i 1).val / 256 * 256 ≤ _ ∧ _ < (i 1).val / 256 * 256 + 256; omega

theorem covered0_5 (i : S2304x6400.Idx) : ∃ t : Fin cfg0.N, (cfg0.win 5).flush t = true ∧ i ∈ ((cfg0.win 5).blk t).view.set := by
  have h0 : (i 0).val < 2304 := (i 0).isLt
  have h1 : (i 1).val < 6400 := (i 1).isLt
  refine ⟨pt0 _ h1, flush0_5 _, ?_⟩
  show i ∈ ((View.whole main_v3_1).slice (win0_5.rect (pt0 _ h1))).set
  rw [View.set_slice_whole, Rect.mem_set_unit]
  intro a
  match a with
  | ⟨0, _⟩ => show win0_5.index (pt0 _ h1) 0 * 2304 ≤ (i 0).val ∧ (i 0).val < win0_5.index (pt0 _ h1) 0 * 2304 + 2304
              rw [(index0 _).2.2.2.2.2.1]; show 0 * 2304 ≤ _ ∧ _ < 0 * 2304 + 2304; omega
  | ⟨1, _⟩ => show win0_5.index (pt0 _ h1) 1 * 256 ≤ (i 1).val ∧ (i 1).val < win0_5.index (pt0 _ h1) 1 * 256 + 256
              rw [(index0 _).2.2.2.2.2.1]; show (i 1).val / 256 * 256 ≤ _ ∧ _ < (i 1).val / 256 * 256 + 256; omega

theorem covered0_6 (i : S2304x6400.Idx) : ∃ t : Fin cfg0.N, (cfg0.win 6).flush t = true ∧ i ∈ ((cfg0.win 6).blk t).view.set := by
  have h0 : (i 0).val < 2304 := (i 0).isLt
  have h1 : (i 1).val < 6400 := (i 1).isLt
  refine ⟨pt0 _ h1, flush0_6 _, ?_⟩
  show i ∈ ((View.whole main_v3_2).slice (win0_6.rect (pt0 _ h1))).set
  rw [View.set_slice_whole, Rect.mem_set_unit]
  intro a
  match a with
  | ⟨0, _⟩ => show win0_6.index (pt0 _ h1) 0 * 2304 ≤ (i 0).val ∧ (i 0).val < win0_6.index (pt0 _ h1) 0 * 2304 + 2304
              rw [(index0 _).2.2.2.2.2.2]; show 0 * 2304 ≤ _ ∧ _ < 0 * 2304 + 2304; omega
  | ⟨1, _⟩ => show win0_6.index (pt0 _ h1) 1 * 256 ≤ (i 1).val ∧ (i 1).val < win0_6.index (pt0 _ h1) 1 * 256 + 256
              rw [(index0 _).2.2.2.2.2.2]; show (i 1).val / 256 * 256 ≤ _ ∧ _ < (i 1).val / 256 * 256 + 256; omega

/-- After the first call, the product's array is `yOf` of the arrays it found. -/
theorem final0_4 : (dat0 V c).arrAt 4 cfg0.N = yOf (V c main_v0) (V c main_arg1) (V c main_v2) :=
  (dat0 V c).arrAt_eq_of_cover 4 _ (fun t _ => flushed0_4 V c t) covered0_4

/-- After the first call, the weight gradient's array is `dwOf` of the arrays it found. -/
theorem final0_5 : (dat0 V c).arrAt 5 cfg0.N = dwOf (V c main_v0) (V c main_v1) (V c main_arg1) (V c main_v2) :=
  (dat0 V c).arrAt_eq_of_cover 5 _ (fun t _ => flushed0_5 V c t) covered0_5

/-- After the first call, the codes' array is `codesOf` of the arrays it found. -/
theorem final0_6 : (dat0 V c).arrAt 6 cfg0.N = codesOf (V c main_arg1) (V c main_v2) :=
  (dat0 V c).arrAt_eq_of_cover 6 _ (fun t _ => flushed0_6 V c t) covered0_6

end Cert.Value

end
-- ==== Proof.Value.Call1.lean ====
/-
  The array the kernel's second call leaves over the extended reals, as a function of the arrays it finds: after the last of a
  row block's five steps the sum is over all 6400 columns, and the six row blocks fill the array.
-/
module

public import proofs.«01_k».proof.Proof.Value.Pay
public import proofs.«01_k».proof.Proof.KernelIdeal.Call1
public import Idealize.ShloMosaic.Lib.Pipeline.Value

@[expose] public section

set_option maxRecDepth 16384

noncomputable section

namespace Cert.Value

open Idealize.ShloMosaic Idealize.ShloMosaic.TcCoe Cert.KernelIdeal Cert.KernelIdeal.Gen Cert.KernelIdeal.Calls
open Idealize.ShloMosaic.Pipeline (Dat)

variable (V : (c : Dev nD) → (b : Ref sig .tc) → Buf (Elt Ideal) ((c : Thread nD τ).loc b))

/-! ## Where each block lies -/

/-- Row block `t / 5` and column block `t % 5`. -/
theorem index1 : ∀ t : Fin cfg1.N, win1_0.index t = ![t.val / 5, t.val % 5] ∧ win1_1.index t = ![0, t.val % 5]
    ∧ win1_2.index t = ![0, t.val % 5] ∧ win1_3.index t = ![t.val / 5, 0] :=
  (by decide +kernel : ∀ t : Fin grid1.N, _)

/-- Row `a` of the row block of point `t`. -/
def row1 (t : Fin cfg1.N) (a : Fin 512) : Fin 3072 :=
  ⟨t.val / 5 * 512 + a.val, by have h : t.val < 30 := t.isLt.trans_eq N_1; omega⟩

/-- Column `b` of the column block of point `t`. -/
def col1 (t : Fin cfg1.N) (b : Fin 1280) : Fin 6400 :=
  ⟨t.val % 5 * 1280 + b.val, by have h : t.val < 30 := t.isLt.trans_eq N_1; omega⟩

section blocks

variable (c : Dev nD) (t : Fin cfg1.N)

theorem blk1_0 (a : Fin 512) (b : Fin 1280) : iblk1 V c 0 t (ix2 a b) = V c main_v1 (ix2 (row1 t a) (col1 t b)) := by
  show V c main_v1 (((cfg1.win 0).blk t).view.emb (ix2 a b)) = _
  congr 1; funext x; apply Fin.ext
  match x with
  | ⟨0, _⟩ => show win1_0.index t 0 * 512 + 1 * a.val = t.val / 5 * 512 + a.val; rw [(index1 t).1]; show t.val / 5 * 512 + _ = _; omega
  | ⟨1, _⟩ => show win1_0.index t 1 * 1280 + 1 * b.val = t.val % 5 * 1280 + b.val; rw [(index1 t).1]; show t.val % 5 * 1280 + _ = _; omega

theorem blk1_1 (a : Fin 2304) (b : Fin 1280) : iblk1 V c 1 t (ix2 a b) = V c main_v3_2 (ix2 a (col1 t b)) := by
  show V c main_v3_2 (((cfg1.win 1).blk t).view.emb (ix2 a b)) = _
  congr 1; funext x; apply Fin.ext
  match x with
  | ⟨0, _⟩ => show win1_1.index t 0 * 2304 + 1 * a.val = a.val; rw [(index1 t).2.1]; show 0 * 2304 + _ = _; omega
  | ⟨1, _⟩ => show win1_1.index t 1 * 1280 + 1 * b.val = t.val % 5 * 1280 + b.val; rw [(index1 t).2.1]; show t.val % 5 * 1280 + _ = _; omega

theorem blk1_2 (b : Fin 1280) : iblk1 V c 2 t (ix2 0 b) = V c main_v2 (ix2 0 (col1 t b)) := by
  show V c main_v2 (((cfg1.win 2).blk t).view.emb (ix2 0 b)) = _
  congr 1; funext x; apply Fin.ext
  match x with
  | ⟨0, _⟩ => show win1_2.index t 0 * 1 + 1 * 0 = 0; rw [(index1 t).2.2.1]; rfl
  | ⟨1, _⟩ => show win1_2.index t 1 * 1280 + 1 * b.val = t.val % 5 * 1280 + b.val; rw [(index1 t).2.2.1]; show t.val % 5 * 1280 + _ = _; omega

theorem emb1_3 (a : Fin 512) (b : Fin 2304) : ((cfg1.win 3).blk t).view.emb (ix2 a b) = (ix2 (row1 t a) b : S3072x2304.Idx) := by
  funext x; apply Fin.ext
  match x with
  | ⟨0, _⟩ => show win1_3.index t 0 * 512 + 1 * a.val = t.val / 5 * 512 + a.val; rw [(index1 t).2.2.2]; show t.val / 5 * 512 + _ = _; omega
  | ⟨1, _⟩ => show win1_3.index t 1 * 2304 + 1 * b.val = b.val; rw [(index1 t).2.2.2]; show 0 * 2304 + _ = _; omega

end blocks

/-! ## The sum after each step -/

variable (c : Dev nD)

/-- The `n`-th term of the sum for row `r` and output column `d` (zero past the last). -/
def term (G : Vec Ideal S3072x6400 .bf16) (C : Vec Ideal S2304x6400 .fp8e4m3) (S : Vec Ideal S1x6400 .f32) (r : Fin 3072) (d : Fin 2304) (n : ℕ) : EReal :=
  if h : n < 6400 then G (ix2 r ⟨n, h⟩) * (C (ix2 d ⟨n, h⟩) * S (ix2 0 ⟨n, h⟩)) else 0

/-- All 6400 terms are one element of `dxOf`. -/
theorem term_sum (G : Vec Ideal S3072x6400 .bf16) (C : Vec Ideal S2304x6400 .fp8e4m3) (S : Vec Ideal S1x6400 .f32) (r : Fin 3072) (d : Fin 2304) :
    ∑ n ∈ Finset.range 6400, term G C S r d n = dxOf G C S (ix2 r d) := by
  rw [Finset.sum_range]
  refine Finset.sum_congr rfl fun n _ => ?_
  rw [term, dif_pos n.isLt]
  rfl

/-- One step adds its 1280 terms to what the scratch holds. -/
theorem step_sum (t : Fin cfg1.N) (v : Vec Ideal S512x2304 .f32) (a : Fin 512) (d : Fin 2304) :
    k1_pay2 (iblk1 V c 1 t) (iblk1 V c 2 t) v (iblk1 V c 0 t) (ix2 a d)
      = v (ix2 a d) + ∑ n ∈ Finset.range 1280, term (V c main_v1) (V c main_v3_2) (V c main_v2) (row1 t a) d (t.val % 5 * 1280 + n) := by
  refine (step_apply _ _ _ _ _ _).trans ?_
  rw [Finset.sum_range]
  refine congrArg (v (ix2 a d) + ·) (Finset.sum_congr rfl fun n _ => ?_)
  rw [blk1_0, blk1_1, blk1_2]
  have hn : t.val % 5 * 1280 + n.val < 6400 := (col1 t n).isLt
  rw [term, dif_pos hn]
  rfl

/-- After the point at step `k` of a row block the scratch holds the sum of the first `1280 * (k + 1)` terms. -/
theorem acc_sum (a : Fin 512) (d : Fin 2304) : ∀ (k : ℕ) (t : Fin cfg1.N), t.val % 5 = k →
    acc V c t.val t.isLt (ix2 a d) = ∑ n ∈ Finset.range ((k + 1) * 1280), term (V c main_v1) (V c main_v3_2) (V c main_v2) (row1 t a) d n := by
  intro k
  induction k with
  | zero =>
    intro t h
    rw [acc_first V c t h]
    refine (step_sum V c t _ a d).trans ?_
    rw [zero_apply, zero_add, h]
    simp only [zero_mul, zero_add, one_mul]
  | succ k ih =>
    intro t h
    rw [acc_next V c t (by omega)]
    refine (step_sum V c t _ a d).trans ?_
    have hlt : t.val - 1 < cfg1.N := Nat.lt_of_le_of_lt (Nat.sub_le _ _) t.isLt
    have hp := ih ⟨t.val - 1, hlt⟩ (by show (t.val - 1) % 5 = k; omega)
    have hr : row1 ⟨t.val - 1, hlt⟩ a = row1 t a :=
      Fin.ext (by show (t.val - 1) / 5 * 512 + a.val = t.val / 5 * 512 + a.val; omega)
    rw [hr] at hp
    rw [h, show (k + 1 + 1) * 1280 = (k + 1) * 1280 + 1280 by omega, Finset.sum_range_add]
    exact congrArg (· + _) hp

/-! ## The array -/

theorem flushed1_3 (t : Fin cfg1.N) (hf : (cfg1.win 3).flush t = true) : (dat1 V c).flushed 3 t
    = ((cfg1.win 3).blk t).view.read (Elt Ideal) (dxOf (V c main_v1) (V c main_v3_2) (V c main_v2)) := by
  show (cfg1.win 3).cut (grid1.coords t) ((dat1 V c).after 3 t) = _
  rw [after1_3]
  suffices h : ∀ j : S512x2304.Idx, k1_pay3 (acc V c t.val t.isLt) j
      = dxOf (V c main_v1) (V c main_v3_2) (V c main_v2) (((cfg1.win 3).blk t).view.emb j) from funext h
  intro j
  idx_vars j
  rw [emb1_3]
  refine (round_apply _ _ _).trans ?_
  rw [acc_sum V c _ _ 4 t ((flush1_3 t).mp hf)]
  exact term_sum _ _ _ _ _

/-- The point that writes back the block holding row `n`. -/
def pt1 (n : ℕ) (h : n < 3072) : Fin cfg1.N := ⟨n / 512 * 5 + 4, by rw [show cfg1.N = 30 from N_1]; omega⟩

theorem covered1_3 (i : S3072x2304.Idx) : ∃ t : Fin cfg1.N, (cfg1.win 3).flush t = true ∧ i ∈ ((cfg1.win 3).blk t).view.set := by
  have h0 : (i 0).val < 3072 := (i 0).isLt
  have h1 : (i 1).val < 2304 := (i 1).isLt
  refine ⟨pt1 _ h0, (flush1_3 _).mpr (by show ((i 0).val / 512 * 5 + 4) % 5 = 4; omega), ?_⟩
  show i ∈ ((View.whole main_v4).slice (win1_3.rect (pt1 _ h0))).set
  rw [View.set_slice_whole, Rect.mem_set_unit]
  intro a
  match a with
  | ⟨0, _⟩ => show win1_3.index (pt1 _ h0) 0 * 512 ≤ (i 0).val ∧ (i 0).val < win1_3.index (pt1 _ h0) 0 * 512 + 512
              rw [(index1 _).2.2.2]
              show ((i 0).val / 512 * 5 + 4) / 5 * 512 ≤ _ ∧ _ < ((i 0).val / 512 * 5 + 4) / 5 * 512 + 512; omega
  | ⟨1, _⟩ => show win1_3.index (pt1 _ h0) 1 * 2304 ≤ (i 1).val ∧ (i 1).val < win1_3.index (pt1 _ h0) 1 * 2304 + 2304
              rw [(index1 _).2.2.2]; show 0 * 2304 ≤ _ ∧ _ < 0 * 2304 + 2304; omega

/-- After the second call, the input gradient's array is `dxOf` of the arrays it found. -/
theorem final1_3 : (dat1 V c).arrAt 3 cfg1.N = dxOf (V c main_v1) (V c main_v3_2) (V c main_v2) :=
  (dat1 V c).arrAt_eq_of_cover 3 _ (fun t hf => flushed1_3 V c t hf) covered1_3

end Cert.Value

end
-- ==== Proof.Value.Ref.lean ====
/-
  The reference's four results at one element over the extended reals, and that the flattened arrays of Pay.lean hold the same
  elements whenever row `b * 1536 + q` of their operands is row `(b, q)` of the reference's.
-/
module

public import proofs.«01_k».proof.Proof.Value.Pay
public import proofs.«01_k».proof.Proof.Gen.ReferenceIdeal.Skeleton

@[expose] public section

set_option maxRecDepth 16384

noncomputable section

namespace Cert.Value

open Idealize.ShloMosaic Cert.ReferenceIdeal Cert.ReferenceIdeal.Gen

theorem refCodes_apply (w : Vec Ideal S2304x6400 .f32) (s : Vec Ideal S6400 .f32) (j0 : Fin 2304) (j1 : Fin 6400) :
    k0_pay2 (F := Ideal) w s (ix2 j0 j1) = code (w (ix2 j0 j1)) (s (ix1 j1)) := by
  pointwise [k0_pay2]
  rfl

theorem refY_apply (x : Vec Ideal S2x1536x2304 .bf16) (w : Vec Ideal S2304x6400 .f32) (s : Vec Ideal S6400 .f32) (b : Fin 2) (q : Fin 1536) (n : Fin 6400) :
    k0_pay4 (F := Ideal) x w s (ix3 b q n) = ∑ k : Fin 2304, x (ix3 b q k) * (code (w (ix2 k n)) (s (ix1 n)) * s (ix1 n)) := by
  pointwise [k0_pay4, k0_pay3]
  exact Finset.sum_congr rfl fun k _ => by rw [refCodes_apply]

theorem refDx_apply (w : Vec Ideal S2304x6400 .f32) (g : Vec Ideal S2x1536x6400 .bf16) (s : Vec Ideal S6400 .f32) (b : Fin 2) (q : Fin 1536) (d : Fin 2304) :
    k0_pay5 (F := Ideal) w g s (ix3 b q d) = ∑ n : Fin 6400, g (ix3 b q n) * (code (w (ix2 d n)) (s (ix1 n)) * s (ix1 n)) := by
  pointwise [k0_pay5, k0_pay3]
  exact Finset.sum_congr rfl fun k _ => by rw [refCodes_apply]

theorem refDw_apply (x : Vec Ideal S2x1536x2304 .bf16) (g : Vec Ideal S2x1536x6400 .bf16) (w : Vec Ideal S2304x6400 .f32) (s : Vec Ideal S6400 .f32)
    (d : Fin 2304) (n : Fin 6400) :
    k0_pay1 (F := Ideal) (k0_pay6 x g) (k0_pay7 w s) (Scalar.ofBits (F := Ideal) .f32 0x00000000#32) (ix2 d n)
      = masked (w (ix2 d n)) (s (ix1 n)) (∑ b : Fin 2, ∑ q : Fin 1536, x (ix3 b q d) * g (ix3 b q n)) := by
  pointwise [k0_pay1, k0_pay6, k0_pay7]
  rfl

/-! ## The flattened arrays against the reference -/

/-- The row of the flattened arrays that holds row `q` of part `b`. -/
def flat (b : Fin 2) (q : Fin 1536) : Fin 3072 := ⟨b.val * 1536 + q.val, by omega⟩

/-- A sum over the flattened rows is the sum over parts and rows. -/
theorem sum_flat (f : Fin 3072 → EReal) : ∑ r : Fin 3072, f r = ∑ b : Fin 2, ∑ q : Fin 1536, f (flat b q) := by
  rw [← Fintype.sum_prod_type' fun b q => f (flat b q)]
  refine (Fintype.sum_equiv (finProdFinEquiv (m := 2) (n := 1536)) _ _ fun p => ?_).symm
  refine congrArg f (Fin.ext ?_)
  show p.1.val * 1536 + p.2.val = p.2.val + 1536 * p.1.val
  omega

variable {X : Vec Ideal Cert.KernelIdeal.S3072x2304 .bf16} {G : Vec Ideal Cert.KernelIdeal.S3072x6400 .bf16} {S : Vec Ideal Cert.KernelIdeal.S1x6400 .f32}
  {x : Vec Ideal S2x1536x2304 .bf16} {g : Vec Ideal S2x1536x6400 .bf16} {s : Vec Ideal S6400 .f32}

/-- The codes are the reference's. -/
theorem codesOf_eq (w : Vec Ideal S2304x6400 .f32) (hS : ∀ n, S (ix2 0 n) = s (ix1 n)) :
    codesOf w S = k0_pay2 (F := Ideal) w s := by
  funext j
  idx_vars j
  rw [refCodes_apply, ← hS]
  rfl

/-- The product is the reference's. -/
theorem yOf_eq (w : Vec Ideal S2304x6400 .f32) (hX : ∀ b q k, X (ix2 (flat b q) k) = x (ix3 b q k)) (hS : ∀ n, S (ix2 0 n) = s (ix1 n))
    (b : Fin 2) (q : Fin 1536) (n : Fin 6400) : yOf X w S (ix2 (flat b q) n) = k0_pay4 (F := Ideal) x w s (ix3 b q n) := by
  rw [refY_apply, ← hS]
  refine Finset.sum_congr rfl fun k _ => ?_
  rw [← hX]
  rfl

/-- The input gradient is the reference's. -/
theorem dxOf_eq (w : Vec Ideal S2304x6400 .f32) (hG : ∀ b q n, G (ix2 (flat b q) n) = g (ix3 b q n)) (hS : ∀ n, S (ix2 0 n) = s (ix1 n))
    (b : Fin 2) (q : Fin 1536) (d : Fin 2304) : dxOf G (codesOf w S) S (ix2 (flat b q) d) = k0_pay5 (F := Ideal) w g s (ix3 b q d) := by
  rw [refDx_apply]
  refine Finset.sum_congr rfl fun n _ => ?_
  rw [← hG, ← hS]
  rfl

/-- The weight gradient is the reference's. -/
theorem dwOf_eq (w : Vec Ideal S2304x6400 .f32) (hX : ∀ b q k, X (ix2 (flat b q) k) = x (ix3 b q k))
    (hG : ∀ b q n, G (ix2 (flat b q) n) = g (ix3 b q n)) (hS : ∀ n, S (ix2 0 n) = s (ix1 n)) :
    dwOf X G w S = k0_pay1 (F := Ideal) (k0_pay6 x g) (k0_pay7 w s) (Scalar.ofBits (F := Ideal) .f32 0x00000000#32) := by
  funext j
  idx_vars j
  rw [refDw_apply, ← hS]
  refine congrArg (masked _ _) ((sum_flat _).trans (Finset.sum_congr rfl fun b _ => Finset.sum_congr rfl fun q _ => ?_))
  rw [← hX, ← hG]
  rfl

end Cert.Value

end
-- ==== Proof.Value.Whole.lean ====
/-
  The kernel's four results over the extended reals are the reference's functions of the arguments: the reshapes around the two
  calls put row `b * 1536 + q` of the flattened arrays at place `(b, q)` of the arguments and results.
-/
module

public import proofs.«01_k».proof.Proof.Value.Call0
public import proofs.«01_k».proof.Proof.Value.Call1
public import proofs.«01_k».proof.Proof.Value.Ref
public import proofs.«01_k».proof.Proof.KernelIdeal.Run
public import Idealize.ShloMosaic.Lib.StableHlo.ReadAt

@[expose] public section

set_option maxRecDepth 16384

noncomputable section

namespace Cert.Value

open Idealize.ShloMosaic Idealize.ShloMosaic.TcCoe Cert.KernelIdeal Cert.KernelIdeal.Gen Cert.KernelIdeal.Calls

variable (m : (ℓ : Loc nD τ sig) → Buf (Elt Ideal) ℓ) (ρ : Dev nD → PrngReg) (c : Dev nD)

/-! ## The reshapes of the arguments -/

theorem entry_x (b : Fin 2) (q : Fin 1536) (k : Fin 2304) :
    U1 m ρ c main_v0 (ix2 (flat b q) k) = m ((c : Thread nD τ).loc main_arg0) (ix3 b q k) := by
  show StableHlo.after hostOps0 (W0 m ρ c) (Proc.devRef .tc main_v0) (ix2 (flat b q) k) = _
  after_reads_at
  refine congrArg (m ((c : Thread nD τ).loc main_arg0)) (congrArg₂ (fun x y => ix3 x y k) (Fin.ext ?_) (Fin.ext ?_))
  · show (b.val * 1536 + q.val) / 1536 = b.val; omega
  · show (b.val * 1536 + q.val) % 1536 = q.val; omega

theorem entry_g (b : Fin 2) (q : Fin 1536) (n : Fin 6400) :
    U1 m ρ c main_v1 (ix2 (flat b q) n) = m ((c : Thread nD τ).loc main_arg2) (ix3 b q n) := by
  show StableHlo.after hostOps0 (W0 m ρ c) (Proc.devRef .tc main_v1) (ix2 (flat b q) n) = _
  after_reads_at
  refine congrArg (m ((c : Thread nD τ).loc main_arg2)) (congrArg₂ (fun x y => ix3 x y n) (Fin.ext ?_) (Fin.ext ?_))
  · show (b.val * 1536 + q.val) / 1536 = b.val; omega
  · show (b.val * 1536 + q.val) % 1536 = q.val; omega

theorem entry_s (n : Fin 6400) : U1 m ρ c main_v2 (ix2 0 n) = m ((c : Thread nD τ).loc main_arg3) (ix1 n) := by
  show StableHlo.after hostOps0 (W0 m ρ c) (Proc.devRef .tc main_v2) (ix2 0 n) = _
  after_reads_at

theorem entry_w : U1 m ρ c main_arg1 = m ((c : Thread nD τ).loc main_arg1) := W1_args m ρ c main_arg1 (by decide)

/-! ## The arrays between the calls -/

theorem mid_g : U2 m ρ c main_v1 = U1 m ρ c main_v1 := W2_of m ρ c main_v1 (by decide)

theorem mid_s : U2 m ρ c main_v2 = U1 m ρ c main_v2 := W2_of m ρ c main_v2 (by decide)

theorem mid_codes : U2 m ρ c main_v3_2 = codesOf (U1 m ρ c main_arg1) (U1 m ρ c main_v2) :=
  (W2_arr m ρ c 6).trans (final0_6 (U1 m ρ) c)

/-! ## The four results -/

/-- The codes the kernel returns are the reference's. -/
theorem codes_eq : W4 m ρ c (Proc.devRef .tc main_v3_2)
    = Cert.ReferenceIdeal.Gen.k0_pay2 (F := Ideal) (m ((c : Thread nD τ).loc main_arg1)) (m ((c : Thread nD τ).loc main_arg3)) := by
  refine ((W4_of m ρ c main_v3_2 (by decide)).trans ((W3_of m ρ c main_v3_2 (by decide)).trans (mid_codes m ρ c))).trans ?_
  rw [entry_w]
  exact codesOf_eq _ (entry_s m ρ c)

/-- The weight gradient the kernel returns is the reference's. -/
theorem dw_eq : W4 m ρ c (Proc.devRef .tc main_v3_1)
    = Cert.ReferenceIdeal.Gen.k0_pay1 (F := Ideal)
        (Cert.ReferenceIdeal.Gen.k0_pay6 (m ((c : Thread nD τ).loc main_arg0)) (m ((c : Thread nD τ).loc main_arg2)))
        (Cert.ReferenceIdeal.Gen.k0_pay7 (m ((c : Thread nD τ).loc main_arg1)) (m ((c : Thread nD τ).loc main_arg3)))
        (Scalar.ofBits (F := Ideal) .f32 0x00000000#32) := by
  refine ((W4_of m ρ c main_v3_1 (by decide)).trans ((W3_of m ρ c main_v3_1 (by decide)).trans ((W2_arr m ρ c 5).trans (final0_5 (U1 m ρ) c)))).trans ?_
  rw [entry_w]
  exact dwOf_eq _ (entry_x m ρ c) (entry_g m ρ c) (entry_s m ρ c)

/-- The product the kernel returns is the reference's. -/
theorem y_eq : W4 m ρ c (Proc.devRef .tc main_v5)
    = Cert.ReferenceIdeal.Gen.k0_pay4 (F := Ideal) (m ((c : Thread nD τ).loc main_arg0)) (m ((c : Thread nD τ).loc main_arg1)) (m ((c : Thread nD τ).loc main_arg3)) := by
  suffices h : ∀ j : S2x1536x6400.Idx, W4 m ρ c (Proc.devRef .tc main_v5) j
      = Cert.ReferenceIdeal.Gen.k0_pay4 (F := Ideal) (m ((c : Thread nD τ).loc main_arg0)) (m ((c : Thread nD τ).loc main_arg1)) (m ((c : Thread nD τ).loc main_arg3)) j from funext h
  intro j
  idx_vars j
  have e : W4 m ρ c (Proc.devRef .tc main_v5) (ix3 j0 j1 j2) = W3 m ρ c (Proc.devRef .tc main_v3_0) (ix2 (flat j0 j1) j2) := by
    show StableHlo.after hostOps2 (W3 m ρ c) (Proc.devRef .tc main_v5) (ix3 j0 j1 j2) = _
    after_reads_at
    rfl
  have h : W3 m ρ c (Proc.devRef .tc main_v3_0) = yOf (U1 m ρ c main_v0) (m ((c : Thread nD τ).loc main_arg1)) (U1 m ρ c main_v2) := by
    refine ((W3_of m ρ c main_v3_0 (by decide)).trans ((W2_arr m ρ c 4).trans (final0_4 (U1 m ρ) c))).trans ?_
    rw [entry_w]
  rw [e, h]
  exact yOf_eq _ (entry_x m ρ c) (entry_s m ρ c) j0 j1 j2

/-- The input gradient the kernel returns is the reference's. -/
theorem dx_eq : W4 m ρ c (Proc.devRef .tc main_v6)
    = Cert.ReferenceIdeal.Gen.k0_pay5 (F := Ideal) (m ((c : Thread nD τ).loc main_arg1)) (m ((c : Thread nD τ).loc main_arg2)) (m ((c : Thread nD τ).loc main_arg3)) := by
  suffices h : ∀ j : S2x1536x2304.Idx, W4 m ρ c (Proc.devRef .tc main_v6) j
      = Cert.ReferenceIdeal.Gen.k0_pay5 (F := Ideal) (m ((c : Thread nD τ).loc main_arg1)) (m ((c : Thread nD τ).loc main_arg2)) (m ((c : Thread nD τ).loc main_arg3)) j from funext h
  intro j
  idx_vars j
  have e : W4 m ρ c (Proc.devRef .tc main_v6) (ix3 j0 j1 j2) = W3 m ρ c (Proc.devRef .tc main_v4) (ix2 (flat j0 j1) j2) := by
    show StableHlo.after hostOps2 (W3 m ρ c) (Proc.devRef .tc main_v6) (ix3 j0 j1 j2) = _
    after_reads_at
    rfl
  have h : W3 m ρ c (Proc.devRef .tc main_v4)
      = dxOf (U1 m ρ c main_v1) (codesOf (m ((c : Thread nD τ).loc main_arg1)) (U1 m ρ c main_v2)) (U1 m ρ c main_v2) := by
    refine (W3_arr m ρ c 3).trans ((final1_3 (U2 m ρ) c).trans ?_)
    rw [mid_g, mid_s, mid_codes, entry_w]
  rw [e, h]
  exact dxOf_eq _ (entry_g m ρ c) (entry_s m ρ c) j0 j1 j2

end Cert.Value

end
-- ==== Proof.lean ====
/-
  The claim: the kernel runs at machine words and over the extended reals with its arguments unchanged and every semaphore
  counter back at zero, the reference does too, the kernel over the extended reals is the kernel itself read there, and its four
  results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.Value.Whole
public import Idealize.ShloMosaic.Adequacy
public import Idealize.ShloMosaic.Init

@[expose] public section

noncomputable section

namespace Cert.Proof

open Idealize.ShloMosaic Idealize.SL.Sem

/-- Over the extended reals, from memories that agree on the arguments, the kernel's product, input gradient, weight gradient and
    codes are those of the reference. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Calls.W4 m g c (Proc.devRef .tc Cert.KernelIdeal.main_v5),
    fun c => Cert.KernelIdeal.Calls.W4 m g c (Proc.devRef .tc Cert.KernelIdeal.main_v6),
    fun c => Cert.KernelIdeal.Calls.W4 m g c (Proc.devRef .tc Cert.KernelIdeal.main_v3_1),
    fun c => Cert.KernelIdeal.Calls.W4 m g c (Proc.devRef .tc Cert.KernelIdeal.main_v3_2), ?_, ?_⟩
  · refine (θ_run _ _ _).mono (fun r h c => ?_) (Cert.KernelIdeal.Calls.run (F := Ideal) m g)
    exact ⟨h.1 c _ (Cert.KernelIdeal.Calls.mem_uc _ (by decide)), h.1 c _ (Cert.KernelIdeal.Calls.mem_uc _ (by decide)),
      h.1 c _ (Cert.KernelIdeal.Calls.mem_uc _ (by decide)), h.1 c _ (Cert.KernelIdeal.Calls.mem_uc _ (by decide)),
      (h.1 c _ (Cert.KernelIdeal.Calls.mem_uc _ (by decide))).trans (Cert.KernelIdeal.Calls.W4_args m g c _ (by decide)),
      (h.1 c _ (Cert.KernelIdeal.Calls.mem_uc _ (by decide))).trans (Cert.KernelIdeal.Calls.W4_args m g c _ (by decide)),
      (h.1 c _ (Cert.KernelIdeal.Calls.mem_uc _ (by decide))).trans (Cert.KernelIdeal.Calls.W4_args m g c _ (by decide)),
      (h.1 c _ (Cert.KernelIdeal.Calls.mem_uc _ (by decide))).trans (Cert.KernelIdeal.Calls.W4_args m g c _ (by decide))⟩
  · refine (θ_run _ _ _).mono (fun r h c => ?_) (Cert.ReferenceIdeal.Value.run (F := Ideal) m' g')
    obtain ⟨hy, hdx, hdw, hc, ha⟩ := h c
    obtain ⟨e0, e1, e2, e3⟩ := hargs c
    rw [e0, e1, e2, e3] at hy hdx hdw hc
    exact ⟨hy.trans (Cert.Value.y_eq m g c).symm, hdx.trans (Cert.Value.dx_eq m g c).symm,
      hdw.trans (Cert.Value.dw_eq m g c).symm, hc.trans (Cert.Value.codes_eq m g c).symm, ha⟩

/-- The five claims together. -/
theorem claim : Cert.Claim :=
  ⟨Cert.Kernel.Gen.facts, Cert.KernelIdeal.Gen.facts, Cert.ReferenceIdeal.Gen.facts,
    fun m g _ => Cert.Kernel.Calls.frame m g,
    fun m g _ => Cert.KernelIdeal.Calls.frame m g,
    fun m g _ => Cert.ReferenceIdeal.Gen.frame m g,
    trivial,
    algebraic⟩

end Cert.Proof

end
